-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention_head [hPre_finite_attention_head : Cert.Pre_finite_attention_head.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_attention_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention_head [hPre_finite_attention_head : Cert.Pre_finite_attention_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_attention_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_attention_head [hKernelIdeal : Cert.KernelIdeal.Facts] [hPre_finite_attention_head : Cert.Pre_finite_attention_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_attention_head [hReferenceIdeal : Cert.ReferenceIdeal.Facts] [hPre_finite_attention_head : Cert.Pre_finite_attention_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_attention_head [hKernelIdeal : Cert.KernelIdeal.Facts] [hReferenceIdeal : Cert.ReferenceIdeal.Facts] [hPre_finite_attention_head : Cert.Pre_finite_attention_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17_1)) (v1 : (c : Dev Cert.KernelIdeal.nD) → Buf (Elt Ideal) ((c.tc : Thread Cert.KernelIdeal.nD Cert.KernelIdeal.τ).loc Cert.KernelIdeal.main_v17_2)) (v2 : (c : Dev Cert.KernelIdeal.nD) → Buf (Elt Ideal) ((c.tc : Thread Cert.KernelIdeal.nD Cert.KernelIdeal.τ).loc Cert.KernelIdeal.main_v17_3)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_1) = v0 c
          ∧ r.2.mem ((c.tc : Thread Cert.KernelIdeal.nD Cert.KernelIdeal.τ).loc Cert.KernelIdeal.main_v17_2) = v1 c
          ∧ r.2.mem ((c.tc : Thread Cert.KernelIdeal.nD Cert.KernelIdeal.τ).loc Cert.KernelIdeal.main_v17_3) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_attention_head : Cert.Pre_finite_attention_head.Facts),
    quiescent_Kernel (hKernel := hKernel)
    ∧ quiescent_KernelIdeal (hKernelIdeal := hKernelIdeal)
    ∧ quiescent_KernelIdeal_pre_finite_attention_head (hKernelIdeal := hKernelIdeal) (hPre_finite_attention_head := hPre_finite_attention_head)
    ∧ quiescent_ReferenceIdeal (hReferenceIdeal := hReferenceIdeal)
    ∧ quiescent_ReferenceIdeal_pre_finite_attention_head (hReferenceIdeal := hReferenceIdeal) (hPre_finite_attention_head := hPre_finite_attention_head)
    ∧ preserves_Kernel_KernelIdeal
    ∧ algebraic_KernelIdeal_ReferenceIdeal_pre_finite_attention_head (hKernelIdeal := hKernelIdeal) (hReferenceIdeal := hReferenceIdeal) (hPre_finite_attention_head := hPre_finite_attention_head)
-- ==== Pre_finite_attention_head.lean ====
abbrev S50000x1024 : Shape := ⟨2, ![50000, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S1x512 : Shape := ⟨2, ![1, 512]⟩
abbrev S1 : Shape := ⟨1, ![1]⟩
abbrev S_ : Shape := ⟨0, ![]⟩

class Facts : Prop where
  bcast_S_S2x256 : S_.BroadcastsInDim S2x256 (![] : Fin 0 → Fin S2x256.rank)
  bcast_S_S2 : S_.BroadcastsInDim S2 (![] : Fin 0 → Fin S2.rank)

variable [Facts]

def fn {F : FTy → Type} [FloatOps F] (main_arg0 : FVec F S50000x1024 .f32) (main_arg1 : FVec F S512x1024 .f32) (main_arg2 : FVec F S512 .f32) (main_arg3 : FVec F S256x512 .f32) (main_arg4 : FVec F S256 .f32) (main_arg5 : FVec F S256x512 .f32) (main_arg6 : FVec F S256 .f32) (main_arg7 : FVec F S2x256 .f32) (main_arg8 : FVec F S2 .f32) (main_arg9 : FVec F S1x512 .f32) (main_arg10 : FVec F S1 .f32) (main_arg11 : FVec F S1x512 .f32) (main_arg12 : FVec F S1 .f32) : IVec S2x256 1 × IVec S2 1 :=
  let main_v0 : FVec F S2x256 .f32 := Host.absf main_arg7
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_v3 : FVec F S2 .f32 := Host.absf main_arg8
  let main_cst_0 : FVec F S_ .f32 := constant S_ .f32 0x7F800000#32
  let main_v4 : FVec F S2 .f32 := broadcastInDim S2 ![] bcast_S_S2 main_cst_0
  let main_v5 : IVec S2 1 := cmpf .olt main_v3 main_v4
  (main_v2, main_v5)
-- ==== Kernel.lean ====
abbrev S50000x1024 : Shape := ⟨2, ![50000, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S1x512 : Shape := ⟨2, ![1, 512]⟩
abbrev S1 : Shape := ⟨1, ![1]⟩
abbrev S1024x512 : Shape := ⟨2, ![1024, 512]⟩
abbrev S512x512 : Shape := ⟨2, ![512, 512]⟩
abbrev S2x1 : Shape := ⟨2, ![2, 1]⟩
abbrev S2x512 : Shape := ⟨2, ![2, 512]⟩
abbrev S_ : Shape := ⟨0, ![]⟩
abbrev S25x2x2000 : Shape := ⟨3, ![25, 2, 2000]⟩
abbrev S1x2 : Shape := ⟨2, ![1, 2]⟩
abbrev S1x1 : Shape := ⟨2, ![1, 1]⟩
abbrev S2000x1024 : Shape := ⟨2, ![2000, 1024]⟩
abbrev S1x2x2000 : Shape := ⟨3, ![1, 2, 2000]⟩
abbrev S1024x1024 : Shape := ⟨2, ![1024, 1024]⟩
abbrev S1024x256 : Shape := ⟨2, ![1024, 256]⟩
abbrev S2x1024 : Shape := ⟨2, ![2, 1024]⟩
abbrev S976x1024 : Shape := ⟨2, ![976, 1024]⟩
abbrev S976x512 : Shape := ⟨2, ![976, 512]⟩
abbrev S976x256 : Shape := ⟨2, ![976, 256]⟩
abbrev S2x976 : Shape := ⟨2, ![2, 976]⟩
abbrev S1x2x1024 : Shape := ⟨3, ![1, 2, 1024]⟩
abbrev S1x2x976 : Shape := ⟨3, ![1, 2, 976]⟩
abbrev S2x25x2000 : Shape := ⟨3, ![2, 25, 2000]⟩
abbrev S2x50000 : Shape := ⟨2, ![2, 50000]⟩

abbrev nBuf : Space → Nat
  | .hbm => 36
  | .vmem => 17
  | .smem => 0
  | _ => 0

abbrev bufTy : (tb : Table) → Fin (tcTables nBuf tb) → BufTy
  | .hbm, ⟨0, _⟩ => ⟨S50000x1024, .f32⟩
  | .hbm, ⟨1, _⟩ => ⟨S512x1024, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S2x256, .f32⟩
  | .hbm, ⟨8, _⟩ => ⟨S2, .f32⟩
  | .hbm, ⟨9, _⟩ => ⟨S1x512, .f32⟩
  | .hbm, ⟨10, _⟩ => ⟨S1, .f32⟩
  | .hbm, ⟨11, _⟩ => ⟨S1x512, .f32⟩
  | .hbm, ⟨12, _⟩ => ⟨S1, .f32⟩
  | .hbm, ⟨13, _⟩ => ⟨S1024x512, .f32⟩
  | .hbm, ⟨14, _⟩ => ⟨S1024x512, .bf16⟩
  | .hbm, ⟨15, _⟩ => ⟨S512x512, .f32⟩
  | .hbm, ⟨16, _⟩ => ⟨S512x512, .f32⟩
  | .hbm, ⟨17, _⟩ => ⟨S512x512, .bf16⟩
  | .hbm, ⟨18, _⟩ => ⟨S512, .f32⟩
  | .hbm, ⟨19, _⟩ => ⟨S1x512, .f32⟩
  | .hbm, ⟨20, _⟩ => ⟨S2x256, .bf16⟩
  | .hbm, ⟨21, _⟩ => ⟨S2x1, .f32⟩
  | .hbm, ⟨22, _⟩ => ⟨S2x512, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S2, .f32⟩
  | .hbm, ⟨28, _⟩ => ⟨S2x1, .f32⟩
  | .hbm, ⟨29, _⟩ => ⟨S1x512, .f32⟩
  | .hbm, ⟨30, _⟩ => ⟨S25x2x2000, .f32⟩
  | .hbm, ⟨31, _⟩ => ⟨S1x2, .f32⟩
  | .hbm, ⟨32, _⟩ => ⟨S1x2, .f32⟩
  | .hbm, ⟨33, _⟩ => ⟨S1x1, .i32⟩
  | .hbm, ⟨34, _⟩ => ⟨S2x25x2000, .f32⟩
  | .hbm, ⟨35, _⟩ => ⟨S2x50000, .f32⟩
  | .local _ .vmem, ⟨0, _⟩ => ⟨S2000x1024, .f32⟩
  | .local _ .vmem, ⟨1, _⟩ => ⟨S2000x1024, .f32⟩
  | .local _ .vmem, ⟨2, _⟩ => ⟨S1024x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S2x256, .bf16⟩
  | .local _ .vmem, ⟨7, _⟩ => ⟨S2x1, .f32⟩
  | .local _ .vmem, ⟨8, _⟩ => ⟨S2x512, .f32⟩
  | .local _ .vmem, ⟨9, _⟩ => ⟨S2x1, .f32⟩
  | .local _ .vmem, ⟨10, _⟩ => ⟨S1x2x2000, .f32⟩
  | .local _ .vmem, ⟨11, _⟩ => ⟨S1x2x2000, .f32⟩
  | .local _ .vmem, ⟨12, _⟩ => ⟨S1x2, .f32⟩
  | .local _ .vmem, ⟨13, _⟩ => ⟨S1x2, .f32⟩
  | .local _ .vmem, ⟨14, _⟩ => ⟨S1x1, .i32⟩
  | .local _ .vmem, ⟨15, _⟩ => ⟨S2x512, .f32⟩
  | .local _ .vmem, ⟨16, _⟩ => ⟨S2x1, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v99 : BitVec 1 := Scalar.cmpi .eq arg0 c24_i32
  let v100 : BitVec 32 := Scalar.extui v99
  let c0_i32_54 : BitVec 32 := 0#32
  let v101 : BitVec 1 := Scalar.cmpi .ne v100 c0_i32_54
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2x2000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S50000x1024 : Shape := ⟨2, ![50000, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S1x512 : Shape := ⟨2, ![1, 512]⟩
abbrev S1 : Shape := ⟨1, ![1]⟩
abbrev S1024x512 : Shape := ⟨2, ![1024, 512]⟩
abbrev S50000x512 : Shape := ⟨2, ![50000, 512]⟩
abbrev S_ : Shape := ⟨0, ![]⟩
abbrev S512x256 : Shape := ⟨2, ![512, 256]⟩
abbrev S50000x256 : Shape := ⟨2, ![50000, 256]⟩
abbrev S1x256 : Shape := ⟨2, ![1, 256]⟩
abbrev S256x2 : Shape := ⟨2, ![256, 2]⟩
abbrev S50000x2 : Shape := ⟨2, ![50000, 2]⟩
abbrev S1x2 : Shape := ⟨2, ![1, 2]⟩
abbrev S2x50000 : Shape := ⟨2, ![2, 50000]⟩
abbrev S2x1 : Shape := ⟨2, ![2, 1]⟩
abbrev S2x512 : Shape := ⟨2, ![2, 512]⟩
abbrev S512x1 : Shape := ⟨2, ![512, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S512x1024, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S2x256, .f32⟩
  | .hbm, ⟨8, _⟩ => ⟨S2, .f32⟩
  | .hbm, ⟨9, _⟩ => ⟨S1x512, .f32⟩
  | .hbm, ⟨10, _⟩ => ⟨S1, .f32⟩
  | .hbm, ⟨11, _⟩ => ⟨S1x512, .f32⟩
  | .hbm, ⟨12, _⟩ => ⟨S1, .f32⟩
  | .hbm, ⟨13, _⟩ => ⟨S1024x512, .f32⟩
  | .hbm, ⟨14, _⟩ => ⟨S50000x512, .f32⟩
  | .hbm, ⟨15, _⟩ => ⟨S1x512, .f32⟩
  | .hbm, ⟨16, _⟩ => ⟨S50000x512, .f32⟩
  | .hbm, ⟨17, _⟩ => ⟨S50000x512, .f32⟩
  | .hbm, ⟨18, _⟩ => ⟨S_, .f32⟩
  | .hbm, ⟨19, _⟩ => ⟨S50000x512, .f32⟩
  | .hbm, ⟨20, _⟩ => ⟨S50000x512, .f32⟩
  | .hbm, ⟨21, _⟩ => ⟨S512x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S512x256, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S256x2, .f32⟩
  | .hbm, ⟨42, _⟩ => ⟨S50000x2, .f32⟩
  | .hbm, ⟨43, _⟩ => ⟨S1x2, .f32⟩
  | .hbm, ⟨44, _⟩ => ⟨S50000x2, .f32⟩
  | .hbm, ⟨45, _⟩ => ⟨S50000x2, .f32⟩
  | .hbm, ⟨46, _⟩ => ⟨S2x50000, .f32⟩
  | .hbm, ⟨47, _⟩ => ⟨S_, .f32⟩
  | .hbm, ⟨48, _⟩ => ⟨S2, .f32⟩
  | .hbm, ⟨49, _⟩ => ⟨S_, .f32⟩
  | .hbm, ⟨50, _⟩ => ⟨S2, .f32⟩
  | .hbm, ⟨51, _⟩ => ⟨S2, .f32⟩
  | .hbm, ⟨52, _⟩ => ⟨S2x1, .f32⟩
  | .hbm, ⟨53, _⟩ => ⟨S2x50000, .f32⟩
  | .hbm, ⟨54, _⟩ => ⟨S2x50000, .f32⟩
  | .hbm, ⟨55, _⟩ => ⟨S2x50000, .f32⟩
  | .hbm, ⟨56, _⟩ => ⟨S_, .f32⟩
  | .hbm, ⟨57, _⟩ => ⟨S2, .f32⟩
  | .hbm, ⟨58, _⟩ => ⟨S2x1, .f32⟩
  | .hbm, ⟨59, _⟩ => ⟨S2x50000, .f32⟩
  | .hbm, ⟨60, _⟩ => ⟨S2x50000, .f32⟩
  | .hbm, ⟨61, _⟩ => ⟨S2x512, .f32⟩
  | .hbm, ⟨62, _⟩ => ⟨S1x512, .f32⟩
  | .hbm, ⟨63, _⟩ => ⟨S512, .f32⟩
  | .hbm, ⟨64, _⟩ => ⟨S512x1, .f32⟩
  | .hbm, ⟨65, _⟩ => ⟨S1, .f32⟩
  | .hbm, ⟨66, _⟩ => ⟨S1, .f32⟩
  | .hbm, ⟨67, _⟩ => ⟨S1x512, .f32⟩
  | .hbm, ⟨68, _⟩ => ⟨S512, .f32⟩
  | .hbm, ⟨69, _⟩ => ⟨S512x1, .f32⟩
  | .hbm, ⟨70, _⟩ => ⟨S1, .f32⟩
  | .hbm, ⟨71, _⟩ => ⟨S1, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S2, .f32⟩
  | .hbm, ⟨77, _⟩ => ⟨S1x2, .f32⟩
  | .hbm, ⟨78, _⟩ => ⟨S1x1, .f32⟩
  | .hbm, ⟨79, _⟩ => ⟨S1x1, .i32⟩
  | .hbm, ⟨80, _⟩ => ⟨S_, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S1x1, .f32⟩
  | .hbm, ⟨86, _⟩ => ⟨S1x2, .f32⟩
  | .hbm, ⟨87, _⟩ => ⟨S1x2, .f32⟩
  | .hbm, ⟨88, _⟩ => ⟨S1x2, .f32⟩
  | .hbm, ⟨89, _⟩ => ⟨S_, .f32⟩
  | .hbm, ⟨90, _⟩ => ⟨S1, .f32⟩
  | .hbm, ⟨91, _⟩ => ⟨S1x1, .f32⟩
  | .hbm, ⟨92, _⟩ => ⟨S1x2, .f32⟩
  | .hbm, ⟨93, _⟩ => ⟨S1x2, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_values : Ref sig .tc := ⟨.hbm, 78, rfl⟩
abbrev main_indices : Ref sig .tc := ⟨.hbm, 79, rfl⟩
abbrev main_cst_4 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.KernelValue.lean ====
/-
  The kernel's result arrays after the run, as what its grid points leave: the attention blocks point by point, the
  other three results from the last point alone; and the run that ends with them, the attention blocks transposed and
  reshaped into one row per class.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Value

open Cert.KernelIdeal Cert.KernelIdeal.Gen
open Idealize.ShloMosaic Idealize.ShloMosaic.TcCoe Idealize.ShloMosaic.Pointwise Idealize.SL.Sem

variable (m : (ℓ : Loc nD τ sig) → Buf (Elt Ideal) ℓ)

/-- The last grid point. -/
abbrev last : Fin cfg0.N := ⟨24, lt_of_lt_of_eq (by decide) N_0.symm⟩

/-- The attention array: block `t` is what point `t` leaves. -/
def G9 (c : Dev nD) : FVec Ideal S25x2x2000 .f32 := fun i =>
  (outsAt0 m c (i 0).val (lt_of_lt_of_eq (i 0).isLt N_0.symm)).1 (ix3 (0 : Fin 1) (i 1 : Fin 2) (i 2 : Fin 2000))

/-- The logits, the probabilities and the class: what the last point leaves. -/
def G10 (c : Dev nD) : FVec Ideal S1x2 .f32 := (outsAt0 m c last.val last.isLt).2.1
def G11 (c : Dev nD) : FVec Ideal S1x2 .f32 := (outsAt0 m c last.val last.isLt).2.2.1
def G12 (c : Dev nD) : IVec S1x1 32 := (outsAt0 m c last.val last.isLt).2.2.2.1

/-- The attention blocks as one row per class. -/
def rows (a : FVec Ideal S25x2x2000 .f32) : FVec Ideal S2x50000 .f32 :=
  shapeCast S2x50000 (transpose S2x25x2000 [1, 0, 2] a transposes_S25x2x2000_S2x25x2000_1_0_2) shapeCasts_S2x25x2000_S2x50000

/-! ## Where the blocks lie -/

/-- Point `t` writes block `t` of the attention array; the other three results have one block. -/
theorem index9 : ∀ t : Fin cfg0.N, win0_9.index t (0 : Fin 3) = t.val ∧ win0_9.index t (1 : Fin 3) = 0 ∧ win0_9.index t (2 : Fin 3) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)

/-- An index lies in a point's block when each coordinate does. -/
theorem mem_block9 (t : Fin cfg0.N) (i : S25x2x2000.Idx) :
    i ∈ ((cfg0.win 9).blk t).view.set ↔ ∀ a, win0_9.index t a * win0_9.block.size a ≤ (i a).val
      ∧ (i a).val < win0_9.index t a * win0_9.block.size a + win0_9.block.size a := by
  show i ∈ ((View.whole main_v17_0).slice (win0_9.rect t)).set ↔ _
  rw [View.set_slice_whole, Rect.mem_set_unit]
theorem mem_block10 (t : Fin cfg0.N) (i : S1x2.Idx) :
    i ∈ ((cfg0.win 10).blk t).view.set ↔ ∀ a, win0_10.index t a * win0_10.block.size a ≤ (i a).val
      ∧ (i a).val < win0_10.index t a * win0_10.block.size a + win0_10.block.size a := by
  show i ∈ ((View.whole main_v17_1).slice (win0_10.rect t)).set ↔ _
  rw [View.set_slice_whole, Rect.mem_set_unit]
theorem mem_block11 (t : Fin cfg0.N) (i : S1x2.Idx) :
    i ∈ ((cfg0.win 11).blk t).view.set ↔ ∀ a, win0_11.index t a * win0_11.block.size a ≤ (i a).val
      ∧ (i a).val < win0_11.index t a * win0_11.block.size a + win0_11.block.size a := by
  show i ∈ ((View.whole main_v17_2).slice (win0_11.rect t)).set ↔ _
  rw [View.set_slice_whole, Rect.mem_set_unit]
theorem mem_block12 (t : Fin cfg0.N) (i : S1x1.Idx) :
    i ∈ ((cfg0.win 12).blk t).view.set ↔ ∀ a, win0_12.index t a * win0_12.block.size a ≤ (i a).val
      ∧ (i a).val < win0_12.index t a * win0_12.block.size a + win0_12.block.size a := by
  show i ∈ ((View.whole main_v17_3).slice (win0_12.rect t)).set ↔ _
  rw [View.set_slice_whole, Rect.mem_set_unit]

/-- A point that is the last of its 25 is the last of the grid. -/
theorem eq_last (t : Fin cfg0.N) (h : t.val % 25 = 24) : t = last := by
  have ht := lt_of_lt_of_eq t.isLt N_0
  exact Fin.ext (by show t.val = 24; omega)

/-- The three results of the last point, at any point known to be the last. -/
theorem G10_at (c : Dev nD) (t : Fin cfg0.N) (ht : t.val % 25 = 24) : G10 m c = (outsAt0 m c t.val t.isLt).2.1 := by
  rw [eq_last t ht]
  unfold G10
  rfl
theorem G11_at (c : Dev nD) (t : Fin cfg0.N) (ht : t.val % 25 = 24) : G11 m c = (outsAt0 m c t.val t.isLt).2.2.1 := by
  rw [eq_last t ht]
  unfold G11
  rfl
theorem G12_at (c : Dev nD) (t : Fin cfg0.N) (ht : t.val % 25 = 24) : G12 m c = (outsAt0 m c t.val t.isLt).2.2.2.1 := by
  rw [eq_last t ht]
  unfold G12
  rfl

/-! ## The arrays after the run -/

/-- After the run the four arrays are these: every block is written back by the point that leaves it. -/
theorem final9 (c : Dev nD) : (dats m 0 c).arrAt 9 cfg0.N = G9 m c := by
  refine (dats m 0 c).arrAt_eq_of_cover 9 (G9 m c) (fun t _ => ?_) (fun i => ?_)
  · show (cfg0.win 9).cut (grid0.coords t) ((dats m 0 c).after 9 t) = _
    rw [after0_9]
    obtain ⟨e0, e1, e2⟩ := index9 t
    funext y
    have hy : (y 0).val < 1 := (y 0).isLt
    have hb : ∀ (n : ℕ) (hn : n < cfg0.N) (x : S1x2x2000.Idx), n = t.val → x = (cfg0.win 9).xinj (grid0.coords t) y →
        (outsAt0 m c t.val t.isLt).1 ((cfg0.win 9).xinj (grid0.coords t) y) = (outsAt0 m c n hn).1 x := by
      rintro n hn x rfl rfl; rfl
    refine hb _ _ _ ?_ (funext fun a => Fin.ext ?_)
    · show win0_9.index t (0 : Fin 3) * 1 + 1 * (y 0).val = t.val
      omega
    · match a with
      | ⟨0, _⟩ => show 0 = (y 0).val; omega
      | ⟨1, _⟩ => show win0_9.index t (1 : Fin 3) * 2 + 1 * (y 1).val = (y 1).val; omega
      | ⟨2, _⟩ => show win0_9.index t (2 : Fin 3) * 2000 + 1 * (y 2).val = (y 2).val; omega
  · have h0 : (i 0).val < 25 := (i 0).isLt
    have h1 : (i 1).val < 2 := (i 1).isLt
    have h2 : (i 2).val < 2000 := (i 2).isLt
    obtain ⟨t, ht⟩ : ∃ t : Fin cfg0.N, t.val = (i 0).val := ⟨⟨(i 0).val, lt_of_lt_of_eq h0 N_0.symm⟩, rfl⟩
    obtain ⟨e0, e1, e2⟩ := index9 t
    refine ⟨t, flush0_9 t, (mem_block9 t i).mpr fun a => ?_⟩
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 2 ≤ (i 1).val ∧ (i 1).val < win0_9.index t (1 : Fin 3) * 2 + 2; omega
    | ⟨2, _⟩ => show win0_9.index t (2 : Fin 3) * 2000 ≤ (i 2).val ∧ (i 2).val < win0_9.index t (2 : Fin 3) * 2000 + 2000; omega

/-- The logits' block is the whole array: what a point writes back is what it leaves. -/
theorem block10 (c : Dev nD) (t : Fin cfg0.N) (v : FVec Ideal S1x2 .f32) (hv : (dats m 0 c).after 10 t = v) :
    (dats m 0 c).flushed 10 t = ((cfg0.win 10).blk t).view.read (Elt Ideal) v := by
  show (cfg0.win 10).cut (grid0.coords t) ((dats m 0 c).after 10 t) = _
  rw [hv]
  obtain ⟨e0, e1⟩ := index10 t
  funext y
  refine congrArg v (funext fun a => Fin.ext ?_)
  match a with
  | ⟨0, _⟩ => show (y 0).val = win0_10.index t (0 : Fin 2) * 1 + 1 * (y 0).val; omega
  | ⟨1, _⟩ => show (y 1).val = win0_10.index t (1 : Fin 2) * 2 + 1 * (y 1).val; omega

theorem final10 (c : Dev nD) : (dats m 0 c).arrAt 10 cfg0.N = G10 m c := by
  refine (dats m 0 c).arrAt_eq_of_cover 10 (G10 m c) (fun t hf => ?_) (fun i => ⟨last, (flush0_10 last).mpr (by decide), ?_⟩)
  · refine block10 m c t _ ?_
    rw [after0_10, G10_at m c t ((flush0_10 t).mp hf)]
  · have h0 : (i 0).val < 1 := (i 0).isLt
    have h1 : (i 1).val < 2 := (i 1).isLt
    obtain ⟨e0, e1⟩ := index10 last
    refine (mem_block10 last i).mpr fun a => ?_
    match a with
    | ⟨0, _⟩ => show win0_10.index last (0 : Fin 2) * 1 ≤ (i 0).val ∧ (i 0).val < win0_10.index last (0 : Fin 2) * 1 + 1; omega
    | ⟨1, _⟩ => show win0_10.index last (1 : Fin 2) * 2 ≤ (i 1).val ∧ (i 1).val < win0_10.index last (1 : Fin 2) * 2 + 2; omega

/-- The probabilities' block is the whole array: what a point writes back is what it leaves. -/
theorem block11 (c : Dev nD) (t : Fin cfg0.N) (v : FVec Ideal S1x2 .f32) (hv : (dats m 0 c).after 11 t = v) :
    (dats m 0 c).flushed 11 t = ((cfg0.win 11).blk t).view.read (Elt Ideal) v := by
  show (cfg0.win 11).cut (grid0.coords t) ((dats m 0 c).after 11 t) = _
  rw [hv]
  obtain ⟨e0, e1⟩ := index11 t
  funext y
  refine congrArg v (funext fun a => Fin.ext ?_)
  match a with
  | ⟨0, _⟩ => show (y 0).val = win0_11.index t (0 : Fin 2) * 1 + 1 * (y 0).val; omega
  | ⟨1, _⟩ => show (y 1).val = win0_11.index t (1 : Fin 2) * 2 + 1 * (y 1).val; omega

theorem final11 (c : Dev nD) : (dats m 0 c).arrAt 11 cfg0.N = G11 m c := by
  refine (dats m 0 c).arrAt_eq_of_cover 11 (G11 m c) (fun t hf => ?_) (fun i => ⟨last, (flush0_11 last).mpr (by decide), ?_⟩)
  · refine block11 m c t _ ?_
    rw [after0_11, G11_at m c t ((flush0_11 t).mp hf)]
  · have h0 : (i 0).val < 1 := (i 0).isLt
    have h1 : (i 1).val < 2 := (i 1).isLt
    obtain ⟨e0, e1⟩ := index11 last
    refine (mem_block11 last i).mpr fun a => ?_
    match a with
    | ⟨0, _⟩ => show win0_11.index last (0 : Fin 2) * 1 ≤ (i 0).val ∧ (i 0).val < win0_11.index last (0 : Fin 2) * 1 + 1; omega
    | ⟨1, _⟩ => show win0_11.index last (1 : Fin 2) * 2 ≤ (i 1).val ∧ (i 1).val < win0_11.index last (1 : Fin 2) * 2 + 2; omega

/-- The class's block is the whole array: what a point writes back is what it leaves. -/
theorem block12 (c : Dev nD) (t : Fin cfg0.N) (v : IVec S1x1 32) (hv : (dats m 0 c).after 12 t = v) :
    (dats m 0 c).flushed 12 t = ((cfg0.win 12).blk t).view.read (Elt Ideal) v := by
  show (cfg0.win 12).cut (grid0.coords t) ((dats m 0 c).after 12 t) = _
  rw [hv]
  obtain ⟨e0, e1⟩ := index12 t
  funext y
  refine congrArg v (funext fun a => Fin.ext ?_)
  match a with
  | ⟨0, _⟩ => show (y 0).val = win0_12.index t (0 : Fin 2) * 1 + 1 * (y 0).val; omega
  | ⟨1, _⟩ => show (y 1).val = win0_12.index t (1 : Fin 2) * 1 + 1 * (y 1).val; omega

theorem final12 (c : Dev nD) : (dats m 0 c).arrAt 12 cfg0.N = G12 m c := by
  refine (dats m 0 c).arrAt_eq_of_cover 12 (G12 m c) (fun t hf => ?_) (fun i => ⟨last, (flush0_12 last).mpr (by decide), ?_⟩)
  · refine block12 m c t _ ?_
    rw [after0_12, G12_at m c t ((flush0_12 t).mp hf)]
  · have h0 : (i 0).val < 1 := (i 0).isLt
    have h1 : (i 1).val < 1 := (i 1).isLt
    obtain ⟨e0, e1⟩ := index12 last
    refine (mem_block12 last i).mpr fun a => ?_
    match a with
    | ⟨0, _⟩ => show win0_12.index last (0 : Fin 2) * 1 ≤ (i 0).val ∧ (i 0).val < win0_12.index last (0 : Fin 2) * 1 + 1; omega
    | ⟨1, _⟩ => show win0_12.index last (1 : Fin 2) * 1 ≤ (i 1).val ∧ (i 1).val < win0_12.index last (1 : Fin 2) * 1 + 1; omega

/-! ## The run -/

/-- The two operations after the region relay the attention array out. -/
theorem relaid (c : Dev nD) :
    Pipeline.afterTail₀ cfgs (dats m) 0 (V0 m) [hostOps1] c main_v19 = rows (G9 m c) := by
  unfold Pipeline.afterTail₀ rows
  rw [← final9]
  have e := Pipeline.withArrays_arr cfg0.spec launch0.win.arr_inj c (V0 m c) (fun w => (dats m 0 c).arrAt w cfg0.N) 9
  after_results
  exact congrArg (fun a => shapeCast S2x50000 (transpose S2x25x2000 [1, 0, 2] a transposes_S25x2x2000_S2x25x2000_1_0_2)
    shapeCasts_S2x25x2000_S2x50000) e

/-- The kernel runs, and ends with these four results. -/
theorem run (ρ : Dev nD → PrngReg) : θ_run defs (onTc (τ := τ) (main (F := Ideal))) ⟨m, fun _ => 0, ρ⟩ fun r => ∀ c : Dev nD,
      r.2.mem ((c.tc : Thread nD τ).loc main_v17_1) = G10 m c
      ∧ r.2.mem ((c.tc : Thread nD τ).loc main_v17_2) = G11 m c
      ∧ r.2.mem ((c.tc : Thread nD τ).loc main_v17_3) = G12 m c
      ∧ r.2.mem ((c.tc : Thread nD τ).loc main_v19) = rows (G9 m c) :=
  (θ_run defs _ _).mono (fun r h c => ⟨((h c).1 10).trans (final10 m c), ((h c).1 11).trans (final11 m c),
      ((h c).1 12).trans (final12 m c),
      ((h c).2 main_v19 (Pipeline.mem_restRefs_of main_v19 (by decide) (by decide))).trans (relaid m c)⟩)
    (run_main m ρ)

end Cert.KernelIdeal.Value

end
-- ==== Proof.Net.lean ====
/-
  The network as plain functions of numbers: what the kernel's program and the reference's program both compute,
  written over index types `Fin n` and the extended reals, with no array layout in it. The kernel's result is stated
  in these functions (`Proof/Kernel*.lean`), the reference's too (`Proof/Ref*.lean`), and `Proof/Softmax.lean` joins
  the two forms of the attention pooling.
-/
module

public import Idealize.ShloMosaic.PureOps.Ideal

@[expose] public section

noncomputable section

namespace Cert.Net

open Idealize.ShloMosaic

/-- The thirteen arguments, read as numbers. `cls c` and `clsb c` are the classifier's row and bias for class `c`. -/
structure Args where
  h : Fin 50000 → Fin 1024 → EReal
  w1 : Fin 512 → Fin 1024 → EReal
  b1 : Fin 512 → EReal
  wa : Fin 256 → Fin 512 → EReal
  ba : Fin 256 → EReal
  wb : Fin 256 → Fin 512 → EReal
  bb : Fin 256 → EReal
  wc : Fin 2 → Fin 256 → EReal
  bc : Fin 2 → EReal
  cls : Fin 2 → Fin 512 → EReal
  clsb : Fin 2 → EReal

variable (p : Args)

/-- The hidden features of one bag row: a linear layer, then the positive part. -/
def hidden (x : Fin 1024 → EReal) (l : Fin 512) : EReal := max ((∑ k, x k * p.w1 l k) + p.b1 l) 0

/-- The tanh branch of the gated attention. -/
def branchA (x : Fin 1024 → EReal) (j : Fin 256) : EReal := Ideal.tanh ((∑ l, hidden p x l * p.wa j l) + p.ba j)

/-- The sigmoid branch of the gated attention. -/
def branchB (x : Fin 1024 → EReal) (j : Fin 256) : EReal := Ideal.logistic ((∑ l, hidden p x l * p.wb j l) + p.bb j)

/-- The attention logit of one bag row for class `c`. -/
def att (x : Fin 1024 → EReal) (c : Fin 2) : EReal :=
  (∑ j, p.wc c j * (branchA p x j * branchB p x j)) + p.bc c

/-- The attention weight of one bag row before normalization. -/
def weight (x : Fin 1024 → EReal) (c : Fin 2) : EReal := Ideal.exp (att p x c)

/-- The weights of all 50000 rows, summed. -/
def total (c : Fin 2) : EReal := ∑ n, weight p (p.h n) c

/-- The weighted sum of the hidden features, not yet divided by the total. -/
def pooled (c : Fin 2) (l : Fin 512) : EReal := ∑ n, weight p (p.h n) c * hidden p (p.h n) l

/-- The bag's logit for class `c`: the classifier on the weighted sum, divided by the total once at the end. -/
def logit (c : Fin 2) : EReal := Ideal.div (∑ l, pooled p c l * p.cls c l) (total p c) + p.clsb c

/-- The greater of the two logits. -/
def top (y : Fin 2 → EReal) : EReal := max (y 0) (y 1)

/-- The softmax of the two logits at class `c`. -/
def prob (y : Fin 2 → EReal) (c : Fin 2) : EReal :=
  Ideal.div (Ideal.exp (y c - top y)) (Ideal.exp (y 0 - top y) + Ideal.exp (y 1 - top y))

/-- The class of the greater logit, the first one on a tie. -/
def pick (y : Fin 2 → EReal) : BitVec 32 := if y 1 ≤ y 0 then 0#32 else 1#32

end Cert.Net

end
-- ==== Proof.Layout.lean ====
/-
  The network's arguments read off the thirteen argument arrays: which array element is which number. The kernel's
  program and the reference's program take the same arrays, so both are stated over this one reading.
-/
module

public import proofs.«01_k».proof.Proof.Net
public import Idealize.ShloMosaic.Lib.Pointwise

@[expose] public section

noncomputable section

namespace Cert.Net

open Idealize.ShloMosaic Idealize.ShloMosaic.Pointwise

/-- A vector and a matrix of extended reals, as arrays. -/
abbrev Vec1 (n : ℕ) : Type := (⟨1, ![n]⟩ : Shape).Idx → EReal
abbrev Vec2 (a b : ℕ) : Type := (⟨2, ![a, b]⟩ : Shape).Idx → EReal

/-- The arguments' numbers, from the arrays in the order the programs take them. -/
def Args.of (h : Vec2 50000 1024) (w1 : Vec2 512 1024) (b1 : Vec1 512) (wa : Vec2 256 512) (ba : Vec1 256)
    (wb : Vec2 256 512) (bb : Vec1 256) (wc : Vec2 2 256) (bc : Vec1 2) (cls0 : Vec2 1 512) (clsb0 : Vec1 1)
    (cls1 : Vec2 1 512) (clsb1 : Vec1 1) : Args where
  h n k := h (ix2 n k)
  w1 l k := w1 (ix2 l k)
  b1 l := b1 (ix1 l)
  wa j l := wa (ix2 j l)
  ba j := ba (ix1 j)
  wb j l := wb (ix2 j l)
  bb j := bb (ix1 j)
  wc c j := wc (ix2 c j)
  bc c := bc (ix1 c)
  cls c l := if c = 0 then cls0 (ix2 0 l) else cls1 (ix2 0 l)
  clsb c := if c = 0 then clsb0 (ix1 0) else clsb1 (ix1 0)

end Cert.Net

end
-- ==== Proof.KernelRow.lean ====
/-
  What the kernel's body computes for one block of bag rows, read at an index: the named values of the body's two row
  ranges (rows 0..1023 and rows 1024..1999 of a block) are the network's functions of one row, and the values stored
  into the two accumulators add that block's share. The weights' layouts are hypotheses (`Weights`), so the statements
  do not mention the grid.
-/
module

public import proofs.«01_k».proof.Proof.Net
public import proofs.«01_k».proof.Proof.Gen.KernelIdeal.Skeleton
public import Idealize.ShloMosaic.Lib.Pointwise

@[expose] public section

noncomputable section

namespace Cert.KernelIdeal.Rows

open Cert.KernelIdeal Cert.KernelIdeal.Gen Cert.Net
open Idealize.ShloMosaic Idealize.ShloMosaic.TcCoe Idealize.ShloMosaic.Pointwise

/-- The six weight blocks hold the network's weights: the first layer transposed, the two attention branches side by
    side (columns 0..255 and 256..511), the last attention layer as it is. -/
structure Weights (p : Args) (w1 : Vec Ideal S1024x512 .bf16) (b1 : Vec Ideal S1x512 .f32) (wab : Vec Ideal S512x512 .bf16)
    (bab : Vec Ideal S1x512 .f32) (wc : Vec Ideal S2x256 .bf16) (bc : Vec Ideal S2x1 .f32) : Prop where
  w1 : ∀ (k : Fin 1024) (l : Fin 512), w1 (ix2 k l) = p.w1 l k
  b1 : ∀ l : Fin 512, b1 (ix2 0 l) = p.b1 l
  wa : ∀ (l : Fin 512) (j : Fin 256), wab (ix2 l ⟨j.val, by omega⟩) = p.wa j l
  wb : ∀ (l : Fin 512) (j : Fin 256), wab (ix2 l ⟨256 + j.val, by omega⟩) = p.wb j l
  ba : ∀ j : Fin 256, bab (ix2 0 ⟨j.val, by omega⟩) = p.ba j
  bb : ∀ j : Fin 256, bab (ix2 0 ⟨256 + j.val, by omega⟩) = p.bb j
  wc : ∀ (c : Fin 2) (j : Fin 256), wc (ix2 c j) = p.wc c j
  bc : ∀ c : Fin 2, bc (ix2 c 0) = p.bc c

variable {p : Args} {w1 : Vec Ideal S1024x512 .bf16} {b1 : Vec Ideal S1x512 .f32} {wab : Vec Ideal S512x512 .bf16}
    {bab : Vec Ideal S1x512 .f32} {wc : Vec Ideal S2x256 .bf16} {bc : Vec Ideal S2x1 .f32}

/-! ## Rows 0..1023 of a block -/

theorem hidden_lo (H : Weights p w1 b1 wab bab wc bc) (x : Vec Ideal S1024x1024 .f32) (r : Fin 1024) (l : Fin 512) :
    k0_pay10 (F := Ideal) x w1 b1 (ix2 r l) = hidden p (fun k => x (ix2 r k)) l := by
  pointwise [k0_pay10]
  simp only [H.w1, H.b1]
  rfl

theorem att_lo (H : Weights p w1 b1 wab bab wc bc) (x : Vec Ideal S1024x1024 .f32) (c : Fin 2) (r : Fin 1024) :
    k0_pay11 (F := Ideal) x w1 b1 wab bab wc bc (ix2 c r) = att p (fun k => x (ix2 r k)) c := by
  pointwise [k0_pay11]
  simp only [hidden_lo H, H.wa, H.wb, H.ba, H.bb, H.wc, H.bc]
  rfl

theorem weight_lo (H : Weights p w1 b1 wab bab wc bc) (x : Vec Ideal S1024x1024 .f32) (c : Fin 2) (r : Fin 1024) :
    k0_pay12 (F := Ideal) x w1 b1 wab bab wc bc (ix2 c r) = weight p (fun k => x (ix2 r k)) c := by
  pointwise [k0_pay12]
  rw [att_lo H]
  rfl

/-! ## Rows 1024..1999 of a block -/

theorem hidden_hi (H : Weights p w1 b1 wab bab wc bc) (x : Vec Ideal S976x1024 .f32) (r : Fin 976) (l : Fin 512) :
    k0_pay13 (F := Ideal) x w1 b1 (ix2 r l) = hidden p (fun k => x (ix2 r k)) l := by
  pointwise [k0_pay13]
  simp only [H.w1, H.b1]
  rfl

theorem att_hi (H : Weights p w1 b1 wab bab wc bc) (x : Vec Ideal S976x1024 .f32) (c : Fin 2) (r : Fin 976) :
    k0_pay14 (F := Ideal) x w1 b1 wab bab wc bc (ix2 c r) = att p (fun k => x (ix2 r k)) c := by
  pointwise [k0_pay14]
  simp only [hidden_hi H, H.wa, H.wb, H.ba, H.bb, H.wc, H.bc]
  rfl

theorem weight_hi (H : Weights p w1 b1 wab bab wc bc) (x : Vec Ideal S976x1024 .f32) (c : Fin 2) (r : Fin 976) :
    k0_pay15 (F := Ideal) x w1 b1 wab bab wc bc (ix2 c r) = weight p (fun k => x (ix2 r k)) c := by
  pointwise [k0_pay15]
  rw [att_hi H]
  rfl

/-! ## What a block stores -/

/-- The attention logits' row ranges, stored under a leading unit axis. -/
theorem store_att_lo (v : FVec Ideal S2x1024 .f32) (c : Fin 2) (r : Fin 1024) :
    k0_pay16 (F := Ideal) v (ix3 0 c r) = v (ix2 c r) := by
  pointwise [k0_pay16]

theorem store_att_hi (v : FVec Ideal S2x976 .f32) (c : Fin 2) (r : Fin 976) :
    k0_pay1 (F := Ideal) v (ix3 0 c r) = v (ix2 c r) := by
  pointwise [k0_pay1]

/-- The block's share of the weights' sum. -/
def blockTotal (p : Args) (x0 : Vec Ideal S1024x1024 .f32) (x1 : Vec Ideal S976x1024 .f32) (c : Fin 2) : EReal :=
  (∑ r : Fin 1024, weight p (fun k => x0 (ix2 r k)) c) + ∑ r : Fin 976, weight p (fun k => x1 (ix2 r k)) c

/-- The block's share of the weighted features. -/
def blockPooled (p : Args) (x0 : Vec Ideal S1024x1024 .f32) (x1 : Vec Ideal S976x1024 .f32) (c : Fin 2) (l : Fin 512) : EReal :=
  (∑ r : Fin 1024, weight p (fun k => x0 (ix2 r k)) c * hidden p (fun k => x0 (ix2 r k)) l)
    + ∑ r : Fin 976, weight p (fun k => x1 (ix2 r k)) c * hidden p (fun k => x1 (ix2 r k)) l

theorem store_total (H : Weights p w1 b1 wab bab wc bc) (x0 : Vec Ideal S1024x1024 .f32) (x1 : Vec Ideal S976x1024 .f32)
    (s : Vec Ideal S2x1 .f32) (c : Fin 2) :
    k0_pay2 (F := Ideal) (k0_pay12 x0 w1 b1 wab bab wc bc) (k0_pay15 x1 w1 b1 wab bab wc bc) s (ix2 c 0)
      = s (ix2 c 0) + blockTotal p x0 x1 c := by
  pointwise [k0_pay2]
  simp only [weight_lo H, weight_hi H]
  rfl

theorem store_pooled (H : Weights p w1 b1 wab bab wc bc) (x0 : Vec Ideal S1024x1024 .f32) (x1 : Vec Ideal S976x1024 .f32)
    (s : Vec Ideal S2x512 .f32) (c : Fin 2) (l : Fin 512) :
    k0_pay3 (F := Ideal) (k0_pay10 x0 w1 b1) (k0_pay12 x0 w1 b1 wab bab wc bc) (k0_pay13 x1 w1 b1)
        (k0_pay15 x1 w1 b1 wab bab wc bc) s (ix2 c l)
      = s (ix2 c l) + blockPooled p x0 x1 c l := by
  pointwise [k0_pay3]
  simp only [weight_lo H, weight_hi H, hidden_lo H, hidden_hi H]
  rfl

/-- The accumulators start at zero. -/
theorem start_pooled (j : S2x512.Idx) : k0_pay8 (F := Ideal) j = 0 := by pointwise [k0_pay8]
theorem start_total (j : S2x1.Idx) : k0_pay9 (F := Ideal) j = 0 := by pointwise [k0_pay9]

end Cert.KernelIdeal.Rows

end
-- ==== Proof.KernelInputs.lean ====
/-
  What the kernel's region finds in its nine input blocks: the operations before the region lay the weights out anew
  (transposed, two matrices side by side, two vectors end to end), and each grid point fetches one block of 2000 bag rows.
  Read at an index, every block is the network's arguments.
-/
module

public import proofs.«01_k».proof.Proof.Layout
public import proofs.«01_k».proof.Proof.KernelRow
public import proofs.«01_k».proof.Proof.KernelValue
public import Idealize.ShloMosaic.Lib.Pipeline.ValueKit
public import Idealize.ShloMosaic.Lib.StableHlo.ReadAt

@[expose] public section

noncomputable section

namespace Cert.KernelIdeal.Rows

open Cert.KernelIdeal Cert.KernelIdeal.Gen Cert.KernelIdeal.Value Cert.Net
open Idealize.ShloMosaic Idealize.ShloMosaic.TcCoe Idealize.ShloMosaic.Pointwise Idealize.SL.Sem

variable (m : (ℓ : Loc nD τ sig) → Buf (Elt Ideal) ℓ)

/-- The network's arguments, read off the launch contents of device `c`. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-! ## The operations before the region -/

/-- What a buffer holds when the region is entered. -/
theorem entry_eq (c : Dev nD) (b : Ref sig .tc) :
    V m c b = StableHlo.after hostOps0 (fun b => m (c, b)) (Proc.devRef .tc b) := by
  unfold V V0
  rw [List.flatten_cons, List.flatten_nil, List.append_nil]

theorem pre_w1 (c : Dev nD) (k : Fin 1024) (l : Fin 512) : V m c main_v1 (ix2 k l) = (args m c).w1 l k := by
  rw [entry_eq]; after_results; pointwise; rfl

theorem pre_b1 (c : Dev nD) (l : Fin 512) : V m c main_v16 (ix2 0 l) = (args m c).b1 l := by
  rw [entry_eq]; after_results; pointwise; rfl

theorem pre_wa (c : Dev nD) (l : Fin 512) (j : Fin 256) : V m c main_v4 (ix2 l ⟨j.val, by omega⟩) = (args m c).wa j l := by
  rw [entry_eq]; after_results; pointwise; rfl

theorem pre_wb (c : Dev nD) (l : Fin 512) (j : Fin 256) : V m c main_v4 (ix2 l ⟨256 + j.val, by omega⟩) = (args m c).wb j l := by
  rw [entry_eq]; after_results; pointwise; rfl

theorem pre_ba (c : Dev nD) (j : Fin 256) : V m c main_v6 (ix2 0 ⟨j.val, by omega⟩) = (args m c).ba j := by
  rw [entry_eq]; after_results; pointwise; rfl

theorem pre_bb (c : Dev nD) (j : Fin 256) : V m c main_v6 (ix2 0 ⟨256 + j.val, by omega⟩) = (args m c).bb j := by
  rw [entry_eq]; after_results; pointwise; rfl

theorem pre_wc (c : Dev nD) (o : Fin 2) (j : Fin 256) : V m c main_v7 (ix2 o j) = (args m c).wc o j := by
  rw [entry_eq]; after_results; pointwise; rfl

theorem pre_bc (c : Dev nD) (o : Fin 2) : V m c main_v8 (ix2 o 0) = (args m c).bc o := by
  rw [entry_eq]; after_results; pointwise; rfl

theorem pre_cls (c : Dev nD) (o : Fin 2) (l : Fin 512) : V m c main_v9 (ix2 o l) = (args m c).cls o l := by
  rw [entry_eq]; after_results; pointwise
  fin_cases o <;> rfl

theorem pre_clsb (c : Dev nD) (o : Fin 2) : V m c main_v15 (ix2 o 0) = (args m c).clsb o := by
  rw [entry_eq]; after_results; pointwise
  fin_cases o <;> rfl

/-! ## The blocks -/

/-- The number of bag row `r` of grid point `t`'s block. -/
def row (t : Fin cfg0.N) (r : Fin 2000) : Fin 50000 :=
  ⟨2000 * t.val + r.val, by have := lt_of_lt_of_eq t.isLt N_0; omega⟩

/-- Grid point `t`'s block of bag rows. -/
theorem block_h (c : Dev nD) (t : Fin cfg0.N) (r : Fin 2000) (k : Fin 1024) :
    iblk m c 0 t (ix2 r k) = (args m c).h (row t r) k := by
  have e : ∀ t : Fin cfg0.N, win0_0.index t = ![t.val, 0] := (by decide +kernel : ∀ t : Fin grid0.N, _)
  have e' : (win0_0.blk t).view.emb (ix2 r k) = ix2 (row t r) k := by
    unfold row
    blk_ext [e]
  exact (congrArg (V m c main_arg0) e').trans (congrFun (V_main_arg0 m c) _)

theorem block1 (c : Dev nD) (t : Fin cfg0.N) (r : Fin 1024) (k : Fin 512) : iblk m c 1 t (ix2 r k) = V m c main_v1 (ix2 r k) := by
  have e : ∀ t : Fin cfg0.N, win0_1.index t = ![0, 0] := (by decide +kernel : ∀ t : Fin grid0.N, _)
  have e' : (win0_1.blk t).view.emb (ix2 r k) = ix2 r k := by blk_ext [e]
  exact congrArg (V m c main_v1) e'

theorem block2 (c : Dev nD) (t : Fin cfg0.N) (r : Fin 1) (k : Fin 512) : iblk m c 2 t (ix2 r k) = V m c main_v16 (ix2 r k) := by
  have e : ∀ t : Fin cfg0.N, win0_2.index t = ![0, 0] := (by decide +kernel : ∀ t : Fin grid0.N, _)
  have e' : (win0_2.blk t).view.emb (ix2 r k) = ix2 r k := by blk_ext [e]
  exact congrArg (V m c main_v16) e'

theorem block3 (c : Dev nD) (t : Fin cfg0.N) (r : Fin 512) (k : Fin 512) : iblk m c 3 t (ix2 r k) = V m c main_v4 (ix2 r k) := by
  have e : ∀ t : Fin cfg0.N, win0_3.index t = ![0, 0] := (by decide +kernel : ∀ t : Fin grid0.N, _)
  have e' : (win0_3.blk t).view.emb (ix2 r k) = ix2 r k := by blk_ext [e]
  exact congrArg (V m c main_v4) e'

theorem block4 (c : Dev nD) (t : Fin cfg0.N) (r : Fin 1) (k : Fin 512) : iblk m c 4 t (ix2 r k) = V m c main_v6 (ix2 r k) := by
  have e : ∀ t : Fin cfg0.N, win0_4.index t = ![0, 0] := (by decide +kernel : ∀ t : Fin grid0.N, _)
  have e' : (win0_4.blk t).view.emb (ix2 r k) = ix2 r k := by blk_ext [e]
  exact congrArg (V m c main_v6) e'

theorem block5 (c : Dev nD) (t : Fin cfg0.N) (r : Fin 2) (k : Fin 256) : iblk m c 5 t (ix2 r k) = V m c main_v7 (ix2 r k) := by
  have e : ∀ t : Fin cfg0.N, win0_5.index t = ![0, 0] := (by decide +kernel : ∀ t : Fin grid0.N, _)
  have e' : (win0_5.blk t).view.emb (ix2 r k) = ix2 r k := by blk_ext [e]
  exact congrArg (V m c main_v7) e'

theorem block6 (c : Dev nD) (t : Fin cfg0.N) (r : Fin 2) (k : Fin 1) : iblk m c 6 t (ix2 r k) = V m c main_v8 (ix2 r k) := by
  have e : ∀ t : Fin cfg0.N, win0_6.index t = ![0, 0] := (by decide +kernel : ∀ t : Fin grid0.N, _)
  have e' : (win0_6.blk t).view.emb (ix2 r k) = ix2 r k := by blk_ext [e]
  exact congrArg (V m c main_v8) e'

theorem block7 (c : Dev nD) (t : Fin cfg0.N) (r : Fin 2) (k : Fin 512) : iblk m c 7 t (ix2 r k) = V m c main_v9 (ix2 r k) := by
  have e : ∀ t : Fin cfg0.N, win0_7.index t = ![0, 0] := (by decide +kernel : ∀ t : Fin grid0.N, _)
  have e' : (win0_7.blk t).view.emb (ix2 r k) = ix2 r k := by blk_ext [e]
  exact congrArg (V m c main_v9) e'

theorem block8 (c : Dev nD) (t : Fin cfg0.N) (r : Fin 2) (k : Fin 1) : iblk m c 8 t (ix2 r k) = V m c main_v15 (ix2 r k) := by
  have e : ∀ t : Fin cfg0.N, win0_8.index t = ![0, 0] := (by decide +kernel : ∀ t : Fin grid0.N, _)
  have e' : (win0_8.blk t).view.emb (ix2 r k) = ix2 r k := by blk_ext [e]
  exact congrArg (V m c main_v15) e'

/-- The six weight blocks of every grid point hold the network's weights. -/
theorem weights (c : Dev nD) (t : Fin cfg0.N) :
    Weights (args m c) (iblk m c 1 t) (iblk m c 2 t) (iblk m c 3 t) (iblk m c 4 t) (iblk m c 5 t) (iblk m c 6 t) where
  w1 k l := (block1 m c t k l).trans (pre_w1 m c k l)
  b1 l := (block2 m c t 0 l).trans (pre_b1 m c l)
  wa l j := (block3 m c t l _).trans (pre_wa m c l j)
  wb l j := (block3 m c t l _).trans (pre_wb m c l j)
  ba j := (block4 m c t 0 _).trans (pre_ba m c j)
  bb j := (block4 m c t 0 _).trans (pre_bb m c j)
  wc o j := (block5 m c t o j).trans (pre_wc m c o j)
  bc o := (block6 m c t o 0).trans (pre_bc m c o)

end Cert.KernelIdeal.Rows

end
-- ==== Proof.Consts.lean ====
/-
  The one float pattern the two programs fold their maxima from: minus infinity, the least extended real.
-/
module

public import Idealize.ShloMosaic.PureOps.Ideal.Laws

@[expose] public section

namespace Cert.Net

open Idealize.ShloMosaic

/-- The f32 pattern of minus infinity denotes `⊥`. -/
theorem neg_infinity : Ideal.ofBits .f32 0xFF800000#32 = ⊥ := by simp [Ideal.ofBits, Ideal.ieee]

end Cert.Net
-- ==== Proof.KernelEnd.lean ====
/-
  What the kernel's body stores at the last grid point, from the two finished accumulators: the bag's two logits, their
  softmax, and the class of the greater one.
-/
module

public import proofs.«01_k».proof.Proof.Net
public import proofs.«01_k».proof.Proof.Consts
public import proofs.«01_k».proof.Proof.Gen.KernelIdeal.Skeleton
public import Idealize.ShloMosaic.Lib.Pointwise

@[expose] public section

noncomputable section

namespace Cert.KernelIdeal.Rows

open Cert.KernelIdeal Cert.KernelIdeal.Gen Cert.Net
open Idealize.ShloMosaic Idealize.ShloMosaic.TcCoe Idealize.ShloMosaic.Pointwise

/-- A maximum over the two classes, folded from minus infinity, is the greater of the two. -/
theorem fold_max_two (y : Fin 2 → EReal) :
    Finset.univ.fold max (Ideal.ofBits .f32 0xFF800000#32) (fun c => y c) = top y := by
  rw [neg_infinity, show (Finset.univ : Finset (Fin 2)) = {0, 1} from rfl, Finset.fold_insert (by decide), Finset.fold_singleton]
  unfold top
  simp

variable (m : Vec Ideal S2x512 .f32) (w : Vec Ideal S2x512 .f32) (s : Vec Ideal S2x1 .f32) (b : Vec Ideal S2x1 .f32)

/-- The two logits as the body computes them from the accumulators. -/
def endLogit (c : Fin 2) : EReal := Ideal.div (∑ l : Fin 512, m (ix2 c l) * w (ix2 c l)) (s (ix2 c 0)) + b (ix2 c 0)

theorem store_logit (c : Fin 2) : k0_pay4 (F := Ideal) m w s b (ix2 0 c) = endLogit m w s b c := by
  pointwise [k0_pay4]
  fin_cases c <;> rfl

theorem store_prob (c : Fin 2) : k0_pay6 (F := Ideal) m w s b (ix2 0 c) = prob (endLogit m w s b) c := by
  pointwise [k0_pay6, k0_pay5]
  simp only [store_logit, fold_max_two, Fin.sum_univ_two]
  rfl

theorem store_pick : k0_pay7 (F := Ideal) m w s b (ix2 0 0) = pick (endLogit m w s b) := by
  pointwise [k0_pay7, k0_pay5]
  simp only [store_logit, fold_max_two]
  generalize endLogit m w s b = y
  rw [show (Finset.univ : Finset (Fin 2)) = {0, 1} from rfl, Finset.fold_insert (by decide), Finset.fold_singleton]
  unfold top pick
  by_cases h : y 1 ≤ y 0
  · have h0 : y 0 = max (y 0) (y 1) := (max_eq_left h).symm
    rw [if_pos h0, if_pos h]
    by_cases h1 : y 1 = max (y 0) (y 1)
    · rw [if_pos h1]; rfl
    · rw [if_neg h1]; rfl
  · have hlt := not_le.mp h
    have h0 : ¬y 0 = max (y 0) (y 1) := by rw [max_eq_right hlt.le]; exact hlt.ne
    have h1 : y 1 = max (y 0) (y 1) := (max_eq_right hlt.le).symm
    rw [if_neg h0, if_pos h1, if_neg h]; rfl

end Cert.KernelIdeal.Rows

end
-- ==== Proof.KernelPoint.lean ====
/-
  What one grid point leaves behind, in the network's functions: the attention logits of its 2000 bag rows, and the two
  accumulators increased by the point's share. The body computes the block in two row ranges (1024 and 976 rows); here
  they are put back together.
-/
module

public import proofs.«01_k».proof.Proof.KernelInputs
public import proofs.«01_k».proof.Proof.KernelEnd
public import Idealize.ShloMosaic.Lib.Pipeline.ReadBack

@[expose] public section

noncomputable section

namespace Cert.KernelIdeal.Rows

open Cert.KernelIdeal Cert.KernelIdeal.Gen Cert.KernelIdeal.Value Cert.Net
open Idealize.ShloMosaic Idealize.ShloMosaic.TcCoe Idealize.ShloMosaic.Pointwise Idealize.SL.Sem

variable (m : (ℓ : Loc nD τ sig) → Buf (Elt Ideal) ℓ)

/-- What a grid point leaves, and the next one finds: the attention block, logits, probabilities, class, and the two accumulators. -/
abbrev Carried : Type :=
  Vec Ideal S1x2x2000 .f32 × Vec Ideal S1x2 .f32 × Vec Ideal S1x2 .f32 × Vec Ideal S1x1 .i32 × Vec Ideal S2x512 .f32 × Vec Ideal S2x1 .f32

/-- What a point other than the first finds. -/
abbrev prev (c : Dev nD) (t : Fin cfg0.N) : Carried := outsAt0 m c (t.val - 1) (Nat.lt_of_le_of_lt (Nat.sub_le _ _) t.isLt)

/-- The two row ranges of a point's block, as the body loads them. -/
abbrev rowsLo (c : Dev nD) (t : Fin cfg0.N) : Vec Ideal S1024x1024 .f32 :=
  View.ld (iblk m c 0 t) (Rect.unit ![0, 0] ![1024, 1024] inb_S2000x1024_S1024x1024_0_0)
abbrev rowsHi (c : Dev nD) (t : Fin cfg0.N) : Vec Ideal S976x1024 .f32 :=
  View.ld (iblk m c 0 t) (Rect.unit ![1024, 0] ![976, 1024] inb_S2000x1024_S976x1024_1024_0)

theorem rowsLo_at (c : Dev nD) (t : Fin cfg0.N) (r : Fin 1024) :
    (fun k => rowsLo m c t (ix2 r k)) = (args m c).h (row t ⟨r.val, by omega⟩) := by
  funext k
  rw [← block_h]
  unfold rowsLo
  pointwise

theorem rowsHi_at (c : Dev nD) (t : Fin cfg0.N) (r : Fin 976) :
    (fun k => rowsHi m c t (ix2 r k)) = (args m c).h (row t ⟨1024 + r.val, by omega⟩) := by
  funext k
  rw [← block_h]
  unfold rowsHi
  pointwise

/-- A sum over a block's rows is the sum over its two ranges. -/
theorem sum_ranges (f : Fin 2000 → EReal) :
    (∑ r : Fin 1024, f ⟨r.val, by omega⟩) + ∑ r : Fin 976, f ⟨1024 + r.val, by omega⟩ = ∑ r : Fin 2000, f r :=
  (Fin.sum_univ_add (a := 1024) (b := 976) f).symm

/-- A point's shares of the total weight and of the weighted features. -/
def shareTotal (p : Args) (t : Fin cfg0.N) (o : Fin 2) : EReal := ∑ r : Fin 2000, weight p (p.h (row t r)) o
def sharePooled (p : Args) (t : Fin cfg0.N) (o : Fin 2) (l : Fin 512) : EReal :=
  ∑ r : Fin 2000, weight p (p.h (row t r)) o * hidden p (p.h (row t r)) l

theorem blockTotal_eq (c : Dev nD) (t : Fin cfg0.N) (o : Fin 2) :
    blockTotal (args m c) (rowsLo m c t) (rowsHi m c t) o = shareTotal (args m c) t o := by
  unfold blockTotal shareTotal
  simp only [rowsLo_at, rowsHi_at]
  exact sum_ranges fun r => weight (args m c) ((args m c).h (row t r)) o

theorem blockPooled_eq (c : Dev nD) (t : Fin cfg0.N) (o : Fin 2) (l : Fin 512) :
    blockPooled (args m c) (rowsLo m c t) (rowsHi m c t) o l = sharePooled (args m c) t o l := by
  unfold blockPooled sharePooled
  simp only [rowsLo_at, rowsHi_at]
  exact sum_ranges fun r => weight (args m c) ((args m c).h (row t r)) o * hidden (args m c) ((args m c).h (row t r)) l

/-! ## The accumulators -/

theorem total_A (c : Dev nD) (t : Fin cfg0.N) (h0 : t.val % 25 = 0) (h1 : ¬t.val % 25 = 24) (o : Fin 2) :
    (outsAt0 m c t.val t.isLt).2.2.2.2.2 (ix2 o 0) = shareTotal (args m c) t o := by
  rw [outsAt0_A m c t h0 h1]
  frame_out
  refine (store_total (weights m c t) (rowsLo m c t) (rowsHi m c t) _ o).trans ?_
  rw [start_total, zero_add, blockTotal_eq]

theorem total_B (c : Dev nD) (t : Fin cfg0.N) (h0 : ¬t.val % 25 = 0) (h1 : ¬t.val % 25 = 24) (o : Fin 2) :
    (outsAt0 m c t.val t.isLt).2.2.2.2.2 (ix2 o 0) = (prev m c t).2.2.2.2.2 (ix2 o 0) + shareTotal (args m c) t o := by
  rw [outsAt0_B m c t h0 h1]
  frame_out
  simp only [read_unread_whole]
  refine (store_total (weights m c t) (rowsLo m c t) (rowsHi m c t) _ o).trans ?_
  rw [blockTotal_eq]

theorem total_C (c : Dev nD) (t : Fin cfg0.N) (h0 : ¬t.val % 25 = 0) (h1 : t.val % 25 = 24) (o : Fin 2) :
    (outsAt0 m c t.val t.isLt).2.2.2.2.2 (ix2 o 0) = (prev m c t).2.2.2.2.2 (ix2 o 0) + shareTotal (args m c) t o := by
  rw [outsAt0_C m c t h0 h1]
  frame_out
  simp only [read_unread_whole]
  refine (store_total (weights m c t) (rowsLo m c t) (rowsHi m c t) _ o).trans ?_
  rw [blockTotal_eq]

theorem pooled_A (c : Dev nD) (t : Fin cfg0.N) (h0 : t.val % 25 = 0) (h1 : ¬t.val % 25 = 24) (o : Fin 2) (l : Fin 512) :
    (outsAt0 m c t.val t.isLt).2.2.2.2.1 (ix2 o l) = sharePooled (args m c) t o l := by
  rw [outsAt0_A m c t h0 h1]
  frame_out
  refine (store_pooled (weights m c t) (rowsLo m c t) (rowsHi m c t) _ o l).trans ?_
  rw [start_pooled, zero_add, blockPooled_eq]

theorem pooled_B (c : Dev nD) (t : Fin cfg0.N) (h0 : ¬t.val % 25 = 0) (h1 : ¬t.val % 25 = 24) (o : Fin 2) (l : Fin 512) :
    (outsAt0 m c t.val t.isLt).2.2.2.2.1 (ix2 o l) = (prev m c t).2.2.2.2.1 (ix2 o l) + sharePooled (args m c) t o l := by
  rw [outsAt0_B m c t h0 h1]
  frame_out
  simp only [read_unread_whole]
  refine (store_pooled (weights m c t) (rowsLo m c t) (rowsHi m c t) _ o l).trans ?_
  rw [blockPooled_eq]

theorem pooled_C (c : Dev nD) (t : Fin cfg0.N) (h0 : ¬t.val % 25 = 0) (h1 : t.val % 25 = 24) (o : Fin 2) (l : Fin 512) :
    (outsAt0 m c t.val t.isLt).2.2.2.2.1 (ix2 o l) = (prev m c t).2.2.2.2.1 (ix2 o l) + sharePooled (args m c) t o l := by
  rw [outsAt0_C m c t h0 h1]
  frame_out
  simp only [read_unread_whole]
  refine (store_pooled (weights m c t) (rowsLo m c t) (rowsHi m c t) _ o l).trans ?_
  rw [blockPooled_eq]

/-! ## The attention logits: two stores, one per row range -/

/-- The block the two stores leave. -/
abbrev attStores (c : Dev nD) (t : Fin cfg0.N) : Vec Ideal S1x2x2000 .f32 :=
  View.canon (Val := Elt Ideal) (s := S1x2x2000) (e := .f32)
    [⟨Rect.unit ![0, 0, 1024] ![1, 2, 976] inb_S1x2x2000_S1x2x976_0_0_1024,
        k0_pay1 (F := Ideal) (k0_pay14 (rowsHi m c t) (iblk m c 1 t) (iblk m c 2 t) (iblk m c 3 t) (iblk m c 4 t) (iblk m c 5 t) (iblk m c 6 t))⟩,
      ⟨Rect.unit ![0, 0, 0] ![1, 2, 1024] inb_S1x2x2000_S1x2x1024_0_0_0,
        k0_pay16 (F := Ideal) (k0_pay11 (rowsLo m c t) (iblk m c 1 t) (iblk m c 2 t) (iblk m c 3 t) (iblk m c 4 t) (iblk m c 5 t) (iblk m c 6 t))⟩]

theorem attStores_at (c : Dev nD) (t : Fin cfg0.N) (o : Fin 2) (r : Fin 2000) :
    attStores m c t (ix3 0 o r) = att (args m c) ((args m c).h (row t r)) o := by
  unfold attStores
  refine View.canon_apply_of_pieces (Val := Elt Ideal) (e := .f32) (fun y : S1x2x2000.Idx => att (args m c) ((args m c).h (row t (y 2))) (y 1)) _ ?_ _ ?_
  · intro p hp x
    rcases List.mem_cons.mp hp with rfl | hp
    · obtain ⟨a, o, r, rfl⟩ : ∃ (a : Fin 1) (o : Fin 2) (r : Fin 976), x = ix3 a o r := ⟨x 0, x 1, x 2, eq_ix3 x⟩
      obtain rfl : a = 0 := Subsingleton.elim _ _
      refine (store_att_hi _ o r).trans ((att_hi (weights m c t) _ o r).trans ?_)
      rw [rowsHi_at]
      congr 3 <;> apply Fin.ext <;> simp [row]
    · obtain rfl := List.mem_singleton.mp hp
      obtain ⟨a, o, r, rfl⟩ : ∃ (a : Fin 1) (o : Fin 2) (r : Fin 1024), x = ix3 a o r := ⟨x 0, x 1, x 2, eq_ix3 x⟩
      obtain rfl : a = 0 := Subsingleton.elim _ _
      refine (store_att_lo _ o r).trans ((att_lo (weights m c t) _ o r).trans ?_)
      rw [rowsLo_at]
      congr 3 <;> apply Fin.ext <;> simp [row]
  · have ho := o.isLt
    have hr := r.isLt
    by_cases h : r.val < 1024
    · refine ⟨_, List.mem_cons_of_mem _ List.mem_cons_self, ?_⟩
      refine (Rect.mem_set_unit (inb := inb_S1x2x2000_S1x2x1024_0_0_0)).mpr fun a => ?_
      fin_cases a <;> simp [ix3] <;> omega
    · refine ⟨_, List.mem_cons_self, ?_⟩
      refine (Rect.mem_set_unit (inb := inb_S1x2x2000_S1x2x976_0_0_1024)).mpr fun a => ?_
      fin_cases a <;> simp [ix3] <;> omega

theorem att_A (c : Dev nD) (t : Fin cfg0.N) (h0 : t.val % 25 = 0) (h1 : ¬t.val % 25 = 24) (o : Fin 2) (r : Fin 2000) :
    (outsAt0 m c t.val t.isLt).1 (ix3 0 o r) = att (args m c) ((args m c).h (row t r)) o := by
  rw [outsAt0_A m c t h0 h1]
  frame_out
  exact attStores_at m c t o r

theorem att_B (c : Dev nD) (t : Fin cfg0.N) (h0 : ¬t.val % 25 = 0) (h1 : ¬t.val % 25 = 24) (o : Fin 2) (r : Fin 2000) :
    (outsAt0 m c t.val t.isLt).1 (ix3 0 o r) = att (args m c) ((args m c).h (row t r)) o := by
  rw [outsAt0_B m c t h0 h1]
  frame_out
  exact attStores_at m c t o r

theorem att_C (c : Dev nD) (t : Fin cfg0.N) (h0 : ¬t.val % 25 = 0) (h1 : t.val % 25 = 24) (o : Fin 2) (r : Fin 2000) :
    (outsAt0 m c t.val t.isLt).1 (ix3 0 o r) = att (args m c) ((args m c).h (row t r)) o := by
  rw [outsAt0_C m c t h0 h1]
  frame_out
  exact attStores_at m c t o r

/-! ## The last point's results, from the accumulators it leaves -/

/-- The logits' operands as the last point has them: its own accumulators, the classifier's two rows and biases. -/
abbrev lastLogit (c : Dev nD) (t : Fin cfg0.N) : Fin 2 → EReal :=
  endLogit (outsAt0 m c t.val t.isLt).2.2.2.2.1 (iblk m c 7 t) (outsAt0 m c t.val t.isLt).2.2.2.2.2 (iblk m c 8 t)

theorem logit_C (c : Dev nD) (t : Fin cfg0.N) (h0 : ¬t.val % 25 = 0) (h1 : t.val % 25 = 24) (o : Fin 2) :
    (outsAt0 m c t.val t.isLt).2.1 (ix2 0 o) = lastLogit m c t o := by
  unfold lastLogit
  rw [← store_logit, outsAt0_C m c t h0 h1]
  frame_out

theorem prob_C (c : Dev nD) (t : Fin cfg0.N) (h0 : ¬t.val % 25 = 0) (h1 : t.val % 25 = 24) (o : Fin 2) :
    (outsAt0 m c t.val t.isLt).2.2.1 (ix2 0 o) = prob (lastLogit m c t) o := by
  unfold lastLogit
  rw [← store_prob, outsAt0_C m c t h0 h1]
  frame_out

theorem pick_C (c : Dev nD) (t : Fin cfg0.N) (h0 : ¬t.val % 25 = 0) (h1 : t.val % 25 = 24) :
    (outsAt0 m c t.val t.isLt).2.2.2.1 (ix2 0 0) = pick (lastLogit m c t) := by
  unfold lastLogit
  rw [← store_pick, outsAt0_C m c t h0 h1]
  frame_out

end Cert.KernelIdeal.Rows

end
-- ==== Proof.KernelArrays.lean ====
/-
  What the kernel's four result arrays hold after the run, in the network's functions: the accumulators after the points
  0..n are the shares of those points, summed; after the last point the shares are the sums over all 50000 bag rows.
-/
module

public import proofs.«01_k».proof.Proof.KernelPoint

@[expose] public section

noncomputable section

namespace Cert.KernelIdeal.Rows

open Cert.KernelIdeal Cert.KernelIdeal.Gen Cert.KernelIdeal.Value Cert.Net
open Idealize.ShloMosaic Idealize.ShloMosaic.TcCoe Idealize.ShloMosaic.Pointwise Idealize.SL.Sem

variable (m : (ℓ : Loc nD τ sig) → Buf (Elt Ideal) ℓ)

/-! ## The accumulators after a point -/

/-- After point `n` the second accumulator holds the shares of the points up to `n`. -/
theorem total_upto (c : Dev nD) (o : Fin 2) : ∀ (n : ℕ) (hn : n < cfg0.N),
    (outsAt0 m c n hn).2.2.2.2.2 (ix2 o 0) = ∑ i : Fin (n + 1), shareTotal (args m c) ⟨i.val, by omega⟩ o
  | 0, hn => by
    refine (total_A m c ⟨0, hn⟩ (Nat.zero_mod _) (fun h => by dsimp only at h; omega) o).trans ?_
    rw [Fin.sum_univ_one]
    rfl
  | n + 1, hn => by
    have hN := lt_of_lt_of_eq hn N_0
    rw [Fin.sum_univ_castSucc]
    have ih := total_upto c o n (Nat.lt_of_succ_lt hn)
    by_cases h : (n + 1) % 25 = 24
    · refine (total_C m c ⟨n + 1, hn⟩ (by dsimp only; omega) h o).trans ?_
      exact congrArg₂ (· + ·) ih rfl
    · refine (total_B m c ⟨n + 1, hn⟩ (by dsimp only; omega) h o).trans ?_
      exact congrArg₂ (· + ·) ih rfl

/-- After point `n` the first accumulator holds the shares of the points up to `n`. -/
theorem pooled_upto (c : Dev nD) (o : Fin 2) (l : Fin 512) : ∀ (n : ℕ) (hn : n < cfg0.N),
    (outsAt0 m c n hn).2.2.2.2.1 (ix2 o l) = ∑ i : Fin (n + 1), sharePooled (args m c) ⟨i.val, by omega⟩ o l
  | 0, hn => by
    refine (pooled_A m c ⟨0, hn⟩ (Nat.zero_mod _) (fun h => by dsimp only at h; omega) o l).trans ?_
    rw [Fin.sum_univ_one]
    rfl
  | n + 1, hn => by
    have hN := lt_of_lt_of_eq hn N_0
    rw [Fin.sum_univ_castSucc]
    have ih := pooled_upto c o l n (Nat.lt_of_succ_lt hn)
    by_cases h : (n + 1) % 25 = 24
    · refine (pooled_C m c ⟨n + 1, hn⟩ (by dsimp only; omega) h o l).trans ?_
      exact congrArg₂ (· + ·) ih rfl
    · refine (pooled_B m c ⟨n + 1, hn⟩ (by dsimp only; omega) h o l).trans ?_
      exact congrArg₂ (· + ·) ih rfl

/-! ## The sums over all points are the sums over all rows -/

/-- A sum over `a` blocks of `b` elements is the sum over the elements. -/
theorem sum_blocks {a b n : ℕ} (hn : n = a * b) (f : Fin n → EReal) (g : Fin a → Fin b → EReal)
    (hg : ∀ (i : Fin a) (r : Fin b) (h : b * i.val + r.val < n), g i r = f ⟨b * i.val + r.val, h⟩) :
    ∑ i, ∑ r, g i r = ∑ x, f x := by
  subst hn
  rw [← Fintype.sum_prod_type']
  refine Fintype.sum_equiv finProdFinEquiv _ _ fun x => ?_
  have hx : b * x.1.val + x.2.val < a * b := by
    have h := (finProdFinEquiv x).isLt
    rwa [finProdFinEquiv_apply_val, Nat.add_comm] at h
  rw [hg x.1 x.2 hx]
  exact congrArg f (Fin.ext (by rw [finProdFinEquiv_apply_val]; exact Nat.add_comm _ _))

theorem total_last (c : Dev nD) (o : Fin 2) :
    (outsAt0 m c last.val last.isLt).2.2.2.2.2 (ix2 o 0) = total (args m c) o :=
  (total_upto m c o 24 last.isLt).trans
    (sum_blocks (a := 25) (b := 2000) (by norm_num) (fun x => weight (args m c) ((args m c).h x) o) _ fun _ _ _ => rfl)

theorem pooled_last (c : Dev nD) (o : Fin 2) (l : Fin 512) :
    (outsAt0 m c last.val last.isLt).2.2.2.2.1 (ix2 o l) = pooled (args m c) o l :=
  (pooled_upto m c o l 24 last.isLt).trans
    (sum_blocks (a := 25) (b := 2000) (by norm_num)
      (fun x => weight (args m c) ((args m c).h x) o * hidden (args m c) ((args m c).h x) l) _ fun _ _ _ => rfl)

/-! ## The result arrays -/

/-- The logits the last point computes are the network's. -/
theorem lastLogit_eq (c : Dev nD) :
    lastLogit m c last = logit (args m c) := by
  funext o
  show endLogit _ _ _ _ o = _
  unfold endLogit logit
  have hp : ∀ l, (outsAt0 m c last.val last.isLt).2.2.2.2.1 (ix2 o l)
      = pooled (args m c) o l := fun l => pooled_last m c o l
  have ht : (outsAt0 m c last.val last.isLt).2.2.2.2.2 (ix2 o 0)
      = total (args m c) o := total_last m c o
  have hc : ∀ l, iblk m c 7 last (ix2 o l) = (args m c).cls o l := fun l => (block7 m c last o l).trans (pre_cls m c o l)
  have hb : iblk m c 8 last (ix2 o 0) = (args m c).clsb o := (block8 m c last o 0).trans (pre_clsb m c o)
  simp only [hp, ht, hc, hb]

/-- A point leaves its rows' attention logits, whatever the point before left. -/
theorem att_outs (c : Dev nD) (o : Fin 2) (r : Fin 2000) : ∀ (n : ℕ) (hn : n < cfg0.N),
    (outsAt0 m c n hn).1 (ix3 0 o r) = att (args m c) ((args m c).h (row ⟨n, hn⟩ r)) o
  | 0, hn => by
    exact att_A m c ⟨0, hn⟩ (Nat.zero_mod _) (fun h => by dsimp only at h; omega) o r
  | n + 1, hn => by
    have hN := lt_of_lt_of_eq hn N_0
    by_cases h : (n + 1) % 25 = 24
    · exact att_C m c ⟨n + 1, hn⟩ (by dsimp only; omega) h o r
    · exact att_B m c ⟨n + 1, hn⟩ (by dsimp only; omega) h o r

/-- The first result of the region: the attention logits, block by block. -/
theorem array_att (c : Dev nD) (t : Fin 25) (o : Fin 2) (r : Fin 2000) :
    G9 m c (ix3 t o r) = att (args m c) ((args m c).h ⟨2000 * t.val + r.val, by omega⟩) o :=
  att_outs m c o r t.val (lt_of_lt_of_eq t.isLt N_0.symm)

/-- Transposed and reshaped, they are the attention logits class by class, row by row. -/
theorem attention_rows (c : Dev nD) (o : Fin 2) (n : Fin 50000) :
    rows (G9 m c) (ix2 o n) = att (args m c) ((args m c).h n) o := by
  unfold rows
  pointwise
  refine (array_att m c _ _ _).trans (congrArg (fun x => att (args m c) ((args m c).h x) o) (Fin.ext ?_))
  show 2000 * (n.val / 2000) + n.val % 2000 = n.val
  omega

section
variable (c : Dev nD) (t : Fin cfg0.N) (h : t.val % 25 = 24)
include h

theorem lastLogit_at : lastLogit m c t = logit (args m c) := by
  rw [eq_last t h]
  exact lastLogit_eq m c

theorem array_logit_at (o : Fin 2) : G10 m c (ix2 0 o) = logit (args m c) o := by
  rw [G10_at m c t h, ← lastLogit_at m c t h]
  exact logit_C m c t (by omega) h o

theorem array_prob_at (o : Fin 2) : G11 m c (ix2 0 o) = prob (logit (args m c)) o := by
  rw [G11_at m c t h, ← lastLogit_at m c t h]
  exact prob_C m c t (by omega) h o

theorem array_pick_at : G12 m c (ix2 0 0) = pick (logit (args m c)) := by
  rw [G12_at m c t h, ← lastLogit_at m c t h]
  exact pick_C m c t (by omega) h

end

/-- The other three results: the network's logits, their softmax, and the class. -/
theorem array_logit (c : Dev nD) (o : Fin 2) : G10 m c (ix2 0 o) = logit (args m c) o :=
  array_logit_at m c last (by decide) o
theorem array_prob (c : Dev nD) (o : Fin 2) : G11 m c (ix2 0 o) = prob (logit (args m c)) o :=
  array_prob_at m c last (by decide) o
theorem array_pick (c : Dev nD) : G12 m c (ix2 0 0) = pick (logit (args m c)) :=
  array_pick_at m c last (by decide)

end Cert.KernelIdeal.Rows

end
-- ==== Proof.RefStages.lean ====
/-
  The reference's program cut into stages, each an array computed from the stage before: hidden features, the two
  branches of the attention, its logits, their softmax over the bag, the pooled features, the two bag logits, their
  softmax and the class. Every result the reference leaves is one of these stages.
-/
module

public import proofs.«01_k».proof.Proof.Layout
public import proofs.«01_k».proof.Proof.Gen.ReferenceIdeal.Run

@[expose] public section

noncomputable section

namespace Cert.ReferenceIdeal.Stages

open Cert.ReferenceIdeal Cert.ReferenceIdeal.Gen Cert.ReferenceIdeal.Value
open Idealize.ShloMosaic Idealize.ShloMosaic.TcCoe Idealize.SL.Sem

/-- The hidden features of every bag row. -/
def features (h : FVec Ideal S50000x1024 .f32) (w1 : FVec Ideal S512x1024 .f32) (b1 : FVec Ideal S512 .f32) :
    FVec Ideal S50000x512 .f32 :=
  maximumf
    (addf (Host.dotGeneral dot_S50000x1024_S1024x512_S50000x512_1_0_0_1_n_n none h
        (transpose S1024x512 [1, 0] w1 transposes_S512x1024_S1024x512_1_0))
      (broadcastInDim S50000x512 ![0, 1] bcast_S1x512_S50000x512_0_1 (broadcastInDim S1x512 ![1] bcast_S512_S1x512_1 b1)))
    (broadcastInDim S50000x512 ![] bcast_S_S50000x512 (constant S_ .f32 0x00000000#32))

/-- A linear layer of the features with 256 outputs: both attention branches before their activation. -/
def branch (x : FVec Ideal S50000x512 .f32) (w : FVec Ideal S256x512 .f32) (b : FVec Ideal S256 .f32) :
    FVec Ideal S50000x256 .f32 :=
  addf (Host.dotGeneral dot_S50000x512_S512x256_S50000x256_1_0_0_1_n_n none x
      (transpose S512x256 [1, 0] w transposes_S256x512_S512x256_1_0))
    (broadcastInDim S50000x256 ![0, 1] bcast_S1x256_S50000x256_0_1 (broadcastInDim S1x256 ![1] bcast_S256_S1x256_1 b))

/-- The sigmoid of the second branch, as one over one plus the exponential of the negation. -/
def sigmoid (y : FVec Ideal S50000x256 .f32) : FVec Ideal S50000x256 .f32 :=
  Host.divf (broadcastInDim S50000x256 ![] bcast_S_S50000x256 (constant S_ .f32 0x3F800000#32))
    (addf (broadcastInDim S50000x256 ![] bcast_S_S50000x256 (constant S_ .f32 0x3F800000#32)) (Host.exp (Host.negf y)))

/-- The attention logits, one row per class. -/
def attention (a g : FVec Ideal S50000x256 .f32) (wc : FVec Ideal S2x256 .f32) (bc : FVec Ideal S2 .f32) :
    FVec Ideal S2x50000 .f32 :=
  transpose S2x50000 [1, 0]
    (addf (Host.dotGeneral dot_S50000x256_S256x2_S50000x2_1_0_0_1_n_n none (mulf (Host.tanh a) (sigmoid g))
        (transpose S256x2 [1, 0] wc transposes_S2x256_S256x2_1_0))
      (broadcastInDim S50000x2 ![0, 1] bcast_S1x2_S50000x2_0_1 (broadcastInDim S1x2 ![1] bcast_S2_S1x2_1 bc)))
    transposes_S50000x2_S2x50000_1_0

/-- The greatest attention logit of each class. -/
def greatest (a : FVec Ideal S2x50000 .f32) : FVec Ideal S2 .f32 :=
  maximumf (broadcastInDim S2 ![] bcast_S_S2 (constant S_ .f32 0xFF800000#32))
    (Host.reduce FloatOps.maximumf a (constant S_ .f32 0xFF800000#32) reducesTo_S2x50000_S2_d1 h_S_)

/-- The exponentials of the logits less the greatest. -/
def exps (a : FVec Ideal S2x50000 .f32) : FVec Ideal S2x50000 .f32 :=
  Host.exp (subf a (broadcastInDim S2x50000 ![0, 1] bcast_S2x1_S2x50000_0_1 (broadcastInDim S2x1 ![0] bcast_S2_S2x1_0 (greatest a))))

/-- The softmax over the bag, from the exponentials. -/
def shares (e : FVec Ideal S2x50000 .f32) : FVec Ideal S2x50000 .f32 :=
  Host.divf e (broadcastInDim S2x50000 ![0, 1] bcast_S2x1_S2x50000_0_1 (broadcastInDim S2x1 ![0] bcast_S2_S2x1_0
    (Host.reduceAdd e (constant S_ .f32 0x00000000#32) reducesTo_S2x50000_S2_d1 h_S_)))

/-- The features pooled with the softmax. -/
def pool (s : FVec Ideal S2x50000 .f32) (x : FVec Ideal S50000x512 .f32) : FVec Ideal S2x512 .f32 :=
  Host.dotGeneral dot_S2x50000_S50000x512_S2x512_1_0_0_1_n_n none s x

/-- The bag's logit for the first class, and for the second. -/
def score0 (M : FVec Ideal S2x512 .f32) (w : FVec Ideal S1x512 .f32) (b : FVec Ideal S1 .f32) : FVec Ideal S1 .f32 :=
  addf (Host.dotGeneral dot_S512_S512x1_S1_0_0_n_1_n_n none
    (shapeCast _ (extractStridedSlice S1x512 ![0, 0] M slices_S2x512_S1x512_0_0) shapeCasts_S1x512_S512)
    (transpose S512x1 [1, 0] w transposes_S1x512_S512x1_1_0)) b
def score1 (M : FVec Ideal S2x512 .f32) (w : FVec Ideal S1x512 .f32) (b : FVec Ideal S1 .f32) : FVec Ideal S1 .f32 :=
  addf (Host.dotGeneral dot_S512_S512x1_S1_0_0_n_1_n_n none
    (shapeCast _ (extractStridedSlice S1x512 ![1, 0] M slices_S2x512_S1x512_1_0) shapeCasts_S1x512_S512)
    (transpose S512x1 [1, 0] w transposes_S1x512_S512x1_1_0)) b

/-- The two logits as one row. -/
def scores (s0 s1 : FVec Ideal S1 .f32) : FVec Ideal S1x2 .f32 :=
  broadcastInDim S1x2 ![1] bcast_S2_S1x2_1
    (concatenate S2 0 [⟨S1, broadcastInDim S1 ![] bcast_S_S1 (shapeCast S_ s0 shapeCasts_S1_S_)⟩,
      ⟨S1, broadcastInDim S1 ![] bcast_S_S1 (shapeCast S_ s1 shapeCasts_S1_S_)⟩] concatenates_S1_S1_S2_d0)

/-- The softmax of the two logits. -/
def softExps (y : FVec Ideal S1x2 .f32) : FVec Ideal S1x2 .f32 :=
  Host.exp (subf y (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf y (constant S_ .f32 0xFF800000#32) reducesTo_S1x2_S1_d1 h_S_)))))
def soft (y : FVec Ideal S1x2 .f32) : FVec Ideal S1x2 .f32 :=
  Host.divf (softExps y) (broadcastInDim S1x2 ![0, 1] bcast_S1x1_S1x2_0_1 (broadcastInDim S1x1 ![0] bcast_S1_S1x1_0
    (Host.reduceAdd (softExps y) (constant S_ .f32 0x00000000#32) reducesTo_S1x2_S1_d1 h_S_)))

/-- The class of the greater logit. -/
def choice (y : FVec Ideal S1x2 .f32) : IVec S1x1 32 := (Host.topK S1x1 1 (FloatOps.cmpfTotal .gt) y sliceFits_S1x2_S1x1).2

/-! ## The program's results are these stages of its arguments -/

variable (m : (ℓ : Loc nD τ sig) → Buf (Elt Ideal) ℓ) (c : Dev nD)

/-- The features, the attention logits, the pooled features and the bag logits of the program's own arguments. -/
def featuresOf : FVec Ideal S50000x512 .f32 :=
  features (m ((c.tc : Thread nD τ).loc main_arg0)) (m ((c.tc : Thread nD τ).loc main_arg1)) (m ((c.tc : Thread nD τ).loc main_arg2))
def attentionOf : FVec Ideal S2x50000 .f32 :=
  attention (branch (featuresOf m c) (m ((c.tc : Thread nD τ).loc main_arg3)) (m ((c.tc : Thread nD τ).loc main_arg4)))
    (branch (featuresOf m c) (m ((c.tc : Thread nD τ).loc main_arg5)) (m ((c.tc : Thread nD τ).loc main_arg6)))
    (m ((c.tc : Thread nD τ).loc main_arg7)) (m ((c.tc : Thread nD τ).loc main_arg8))
def poolOf : FVec Ideal S2x512 .f32 := pool (shares (exps (attentionOf m c))) (featuresOf m c)
def scoresOf : FVec Ideal S1x2 .f32 :=
  scores (score0 (poolOf m c) (m ((c.tc : Thread nD τ).loc main_arg9)) (m ((c.tc : Thread nD τ).loc main_arg10)))
    (score1 (poolOf m c) (m ((c.tc : Thread nD τ).loc main_arg11)) (m ((c.tc : Thread nD τ).loc main_arg12)))

theorem out0_eq : res_out0 (F := Ideal) m c = scoresOf m c := rfl
theorem out1_eq : res_out1 (F := Ideal) m c = soft (scoresOf m c) := rfl
theorem out2_eq : res_out2 (F := Ideal) m c = choice (scoresOf m c) := rfl

end Cert.ReferenceIdeal.Stages

end
-- ==== Proof.Softmax.lean ====
/-
  The equation between the two forms of attention pooling. The reference subtracts the greatest attention logit,
  exponentiates, divides every weight by the sum, pools with the normalized weights and applies the classifier. The
  other form exponentiates without subtracting, pools, applies the classifier and divides once. Over the extended
  reals they agree as soon as the attention logits are real numbers, whatever infinities the features hold: the common
  factor is a positive real, and a positive real distributes over every sum of extended reals.
-/
module

public import proofs.«01_k».proof.Proof.Net
public import Mathlib.Analysis.SpecialFunctions.Exp

@[expose] public section

noncomputable section

namespace Cert.Net

open Idealize.ShloMosaic
open scoped BigOperators

/-- The value is a real number. -/
def Real' (x : EReal) : Prop := ∃ r : ℝ, x = (r : EReal)

theorem Real'.of_ne {x : EReal} (ht : x ≠ ⊤) (hb : x ≠ ⊥) : Real' x := ⟨x.toReal, (EReal.coe_toReal ht hb).symm⟩

theorem Real'.add {x y : EReal} (hx : Real' x) (hy : Real' y) : Real' (x + y) := by
  obtain ⟨a, rfl⟩ := hx; obtain ⟨b, rfl⟩ := hy; exact ⟨a + b, by push_cast; rfl⟩

theorem Real'.mul {x y : EReal} (hx : Real' x) (hy : Real' y) : Real' (x * y) := by
  obtain ⟨a, rfl⟩ := hx; obtain ⟨b, rfl⟩ := hy; exact ⟨a * b, by push_cast; rfl⟩

/-- A finite sum of reals, taken among the extended reals, is the real sum. -/
theorem coe_sum {ι : Type} [Fintype ι] (f : ι → ℝ) : (∑ i, (f i : EReal)) = ((∑ i, f i : ℝ) : EReal) := by
  classical
  have key : ∀ s : Finset ι, (∑ i ∈ s, (f i : EReal)) = ((∑ i ∈ s, f i : ℝ) : EReal) := by
    intro s
    induction s using Finset.induction_on with
    | empty => simp
    | insert a s ha ih => rw [Finset.sum_insert ha, Finset.sum_insert ha, ih, EReal.coe_add]
  exact key _

theorem Real'.sum {ι : Type} [Fintype ι] {f : ι → EReal} (hf : ∀ i, Real' (f i)) : Real' (∑ i, f i) := by
  choose g hg using hf
  exact ⟨∑ i, g i, by rw [← coe_sum]; exact Finset.sum_congr rfl fun i _ => hg i⟩

theorem Real'.tanh (x : EReal) : Real' (Ideal.tanh x) := by
  cases x with
  | bot => exact ⟨-1, by simp⟩
  | top => exact ⟨1, by simp⟩
  | coe r => exact ⟨_, Ideal.tanh_coe r⟩

theorem Real'.logistic (x : EReal) : Real' (Ideal.logistic x) := by
  cases x with
  | bot => exact ⟨0, by simp⟩
  | top => exact ⟨1, by simp⟩
  | coe r => exact ⟨_, Ideal.logistic_coe r⟩

/-- With a finite last layer the attention logits are real, whatever the row and the earlier layers hold. -/
theorem att_real (p : Args) (hw : ∀ c j, Real' (p.wc c j)) (hb : ∀ c, Real' (p.bc c)) (x : Fin 1024 → EReal) (c : Fin 2) :
    Real' (att p x c) :=
  (Real'.sum fun j => (hw c j).mul ((Real'.tanh _).mul (Real'.logistic _))).add (hb c)

/-- A real that is not negative distributes over a sum of extended reals. -/
theorem coe_mul_sum {ι : Type} [Fintype ι] {r : ℝ} (hr : 0 ≤ r) (f : ι → EReal) :
    ((r : EReal)) * ∑ i, f i = ∑ i, (r : EReal) * f i := by
  classical
  have key : ∀ s : Finset ι, ((r : EReal)) * ∑ i ∈ s, f i = ∑ i ∈ s, (r : EReal) * f i := by
    intro s
    induction s using Finset.induction_on with
    | empty => simp
    | insert a s ha ih =>
      rw [Finset.sum_insert ha, Finset.sum_insert ha, ← ih]
      exact EReal.left_distrib_of_nonneg_of_ne_top (EReal.coe_nonneg.mpr hr) (EReal.coe_ne_top r) _ _
  exact key _

/-- The greatest of finitely many reals, folded from `⊥`, is a real when there is at least one. -/
theorem fold_max_real {ι : Type} [Fintype ι] (i₀ : ι) (f : ι → EReal) (hf : ∀ i, Real' (f i)) :
    Real' (Finset.univ.fold max ⊥ f) := by
  apply Real'.of_ne
  · have hlt : Finset.univ.fold max (⊥ : EReal) f < ⊤ := by
      rw [Finset.fold_max_lt]
      exact ⟨bot_lt_top, fun i _ => by obtain ⟨r, hr⟩ := hf i; rw [hr]; exact EReal.coe_lt_top r⟩
    exact hlt.ne
  · have hgt : (⊥ : EReal) < Finset.univ.fold max (⊥ : EReal) f := by
      rw [Finset.lt_fold_max]
      exact Or.inr ⟨i₀, Finset.mem_univ _, by obtain ⟨r, hr⟩ := hf i₀; rw [hr]; exact EReal.bot_lt_coe r⟩
    exact hgt.ne'

/-- One normalized weight: subtracting a real before exponentiating changes nothing after the division. -/
theorem normalized {ι : Type} [Fintype ι] (a : ι → ℝ) (M : ℝ) (n : ι) :
    Ideal.div (Ideal.exp ((a n : EReal) - (M : EReal))) (∑ i, Ideal.exp ((a i : EReal) - (M : EReal)))
      = ((1 / ∑ i, Real.exp (a i) : ℝ) : EReal) * (Real.exp (a n) : EReal) := by
  have hpos : 0 < ∑ i, Real.exp (a i - M) := Finset.sum_pos (fun i _ => Real.exp_pos _) ⟨n, Finset.mem_univ _⟩
  have hpos' : 0 < ∑ i, Real.exp (a i) := Finset.sum_pos (fun i _ => Real.exp_pos _) ⟨n, Finset.mem_univ _⟩
  have e : ∀ i, Ideal.exp ((a i : EReal) - (M : EReal)) = (Real.exp (a i - M) : EReal) := fun i => by
    rw [← EReal.coe_sub, Ideal.exp_coe]
  simp only [e]
  rw [coe_sum, Ideal.div_coe hpos.ne', ← EReal.coe_mul, ← EReal.coe_mul]
  congr 1
  have hs : ∑ i, Real.exp (a i - M) = (∑ i, Real.exp (a i)) * (Real.exp M)⁻¹ := by
    rw [Finset.sum_mul]; exact Finset.sum_congr rfl fun i _ => by rw [Real.exp_sub, div_eq_mul_inv]
  rw [hs, Real.exp_sub]
  have hM := (Real.exp_pos M).ne'
  field_simp

/-- The reference's form of the class logit, `mx` the real number it subtracts. -/
def refLogit (p : Args) (mx : EReal) (c : Fin 2) : EReal :=
  (∑ l, (∑ n, Ideal.div (Ideal.exp (att p (p.h n) c - mx)) (∑ i, Ideal.exp (att p (p.h i) c - mx)) * hidden p (p.h n) l)
    * p.cls c l) + p.clsb c

/-- **The two forms agree** when the attention logits of the class are real and a real is subtracted. -/
theorem refLogit_eq (p : Args) (mx : EReal) (c : Fin 2) (hmx : Real' mx) (ha : ∀ x, Real' (att p x c)) :
    refLogit p mx c = logit p c := by
  choose a0 ha0 using ha
  obtain ⟨M, rfl⟩ := hmx
  have hex : ∃ a : Fin 50000 → ℝ, ∀ n, att p (p.h n) c = (a n : EReal) := ⟨fun n => a0 (p.h n), fun n => ha0 _⟩
  obtain ⟨a, ha⟩ := hex
  have hpos : 0 < ∑ i, Real.exp (a i) :=
    Finset.sum_pos (fun i _ => Real.exp_pos _) ⟨⟨0, by norm_num⟩, Finset.mem_univ _⟩
  have hκ : (0 : ℝ) ≤ 1 / ∑ i, Real.exp (a i) := (div_pos one_pos hpos).le
  have hw : ∀ n, weight p (p.h n) c = (Real.exp (a n) : EReal) := fun n => by
    unfold weight; rw [ha, Ideal.exp_coe]
  have ht : total p c = ((∑ i, Real.exp (a i) : ℝ) : EReal) := by
    unfold total; rw [← coe_sum]; exact Finset.sum_congr rfl fun n _ => hw n
  have hn : ∀ n, Ideal.div (Ideal.exp (att p (p.h n) c - (M : EReal))) (∑ i, Ideal.exp (att p (p.h i) c - (M : EReal)))
      = ((1 / ∑ i, Real.exp (a i) : ℝ) : EReal) * weight p (p.h n) c := fun n => by
    rw [hw]; simp only [ha]; exact normalized a M n
  unfold refLogit logit
  rw [ht, Ideal.div_coe hpos.ne', mul_comm (∑ l, _) (((1 / ∑ i, Real.exp (a i) : ℝ) : EReal)), coe_mul_sum hκ]
  refine congrArg (· + p.clsb c) (Finset.sum_congr rfl fun l _ => ?_)
  rw [← mul_assoc]
  refine congrArg (· * p.cls c l) ?_
  unfold pooled
  rw [coe_mul_sum hκ]
  exact Finset.sum_congr rfl fun n _ => by rw [hn, mul_assoc]

end Cert.Net

end
-- ==== Proof.RefRead.lean ====
/-
  The reference's stages read at an index, and then in the network's functions: its attention logits are `att`, its
  two bag logits are the normalized form `refLogit`.
-/
module

public import proofs.«01_k».proof.Proof.RefStages
public import proofs.«01_k».proof.Proof.Consts
public import proofs.«01_k».proof.Proof.Softmax

@[expose] public section

noncomputable section

namespace Cert.ReferenceIdeal.Stages

open Cert.ReferenceIdeal Cert.ReferenceIdeal.Gen Cert.ReferenceIdeal.Value Cert.Net
open Idealize.ShloMosaic Idealize.ShloMosaic.TcCoe Idealize.ShloMosaic.Pointwise Idealize.SL.Sem

/-! ## Every stage at an index -/

theorem features_at (h : FVec Ideal S50000x1024 .f32) (w1 : FVec Ideal S512x1024 .f32) (b1 : FVec Ideal S512 .f32)
    (n : Fin 50000) (l : Fin 512) :
    features h w1 b1 (ix2 n l) = max ((∑ k : Fin 1024, h (ix2 n k) * w1 (ix2 l k)) + b1 (ix1 l)) 0 := by
  pointwise [features]

theorem branch_at (x : FVec Ideal S50000x512 .f32) (w : FVec Ideal S256x512 .f32) (b : FVec Ideal S256 .f32)
    (n : Fin 50000) (j : Fin 256) :
    branch x w b (ix2 n j) = (∑ l : Fin 512, x (ix2 n l) * w (ix2 j l)) + b (ix1 j) := by
  pointwise [branch]

theorem sigmoid_at (y : FVec Ideal S50000x256 .f32) (n : Fin 50000) (j : Fin 256) :
    sigmoid y (ix2 n j) = Ideal.logistic (y (ix2 n j)) := by
  pointwise [sigmoid]
  rfl

theorem attention_at (a g : FVec Ideal S50000x256 .f32) (wc : FVec Ideal S2x256 .f32) (bc : FVec Ideal S2 .f32)
    (o : Fin 2) (n : Fin 50000) :
    attention a g wc bc (ix2 o n)
      = (∑ j : Fin 256, Ideal.tanh (a (ix2 n j)) * sigmoid g (ix2 n j) * wc (ix2 o j)) + bc (ix1 o) := by
  pointwise [attention]

theorem greatest_at (a : FVec Ideal S2x50000 .f32) (o : Fin 2) :
    greatest a (ix1 o) = max ⊥ (Finset.univ.fold max ⊥ fun n : Fin 50000 => a (ix2 o n)) := by
  pointwise [greatest]
  rw [neg_infinity]

theorem exps_at (a : FVec Ideal S2x50000 .f32) (o : Fin 2) (n : Fin 50000) :
    exps a (ix2 o n) = Ideal.exp (a (ix2 o n) - greatest a (ix1 o)) := by
  pointwise [exps]

theorem shares_at (e : FVec Ideal S2x50000 .f32) (o : Fin 2) (n : Fin 50000) :
    shares e (ix2 o n) = Ideal.div (e (ix2 o n)) (∑ i : Fin 50000, e (ix2 o i)) := by
  pointwise [shares]

theorem pool_at (s : FVec Ideal S2x50000 .f32) (x : FVec Ideal S50000x512 .f32) (o : Fin 2) (l : Fin 512) :
    pool s x (ix2 o l) = ∑ n : Fin 50000, s (ix2 o n) * x (ix2 n l) := by
  pointwise [pool]

theorem score0_at (M : FVec Ideal S2x512 .f32) (w : FVec Ideal S1x512 .f32) (b : FVec Ideal S1 .f32) :
    score0 M w b (ix1 0) = (∑ l : Fin 512, M (ix2 0 l) * w (ix2 0 l)) + b (ix1 0) := by
  pointwise [score0]

theorem score1_at (M : FVec Ideal S2x512 .f32) (w : FVec Ideal S1x512 .f32) (b : FVec Ideal S1 .f32) :
    score1 M w b (ix1 0) = (∑ l : Fin 512, M (ix2 1 l) * w (ix2 0 l)) + b (ix1 0) := by
  pointwise [score1]

theorem scores_at (s0 s1 : FVec Ideal S1 .f32) (o : Fin 2) :
    scores s0 s1 (ix2 0 o) = if o.val < 1 then s0 (ix1 0) else s1 (ix1 0) := by
  pointwise [scores]
  exact dite_eq_ite

/-- The softmax of the two logits is the network's. -/
theorem soft_at (y : FVec Ideal S1x2 .f32) (o : Fin 2) : soft y (ix2 0 o) = prob (fun k => y (ix2 0 k)) o := by
  pointwise [soft, softExps]
  rw [neg_infinity, Fin.sum_univ_two, show (Finset.univ : Finset (Fin 2)) = {0, 1} from rfl,
    Finset.fold_insert (by decide), Finset.fold_singleton, max_bot_right, max_bot_left]
  rfl

/-! ## The stages of the program's arguments, in the network's functions -/

variable (m : (ℓ : Loc nD τ sig) → Buf (Elt Ideal) ℓ) (c : Dev nD)

/-- The network's arguments, read off the launch contents of device `c`. -/
def args : Args :=
  Args.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

theorem featuresOf_at (n : Fin 50000) (l : Fin 512) :
    featuresOf m c (ix2 n l) = hidden (args m c) ((args m c).h n) l := by
  unfold featuresOf
  rw [features_at]
  rfl

theorem attentionOf_at (o : Fin 2) (n : Fin 50000) :
    attentionOf m c (ix2 o n) = att (args m c) ((args m c).h n) o := by
  unfold attentionOf
  rw [attention_at]
  unfold att branchA branchB
  refine congrArg₂ (· + ·) (Finset.sum_congr rfl fun j _ => ?_) rfl
  rw [sigmoid_at, branch_at, branch_at, mul_comm]
  simp only [featuresOf_at]
  rfl

/-- The number the reference subtracts before exponentiating. -/
def shift (o : Fin 2) : EReal := greatest (attentionOf m c) (ix1 o)

theorem shift_real (ha : ∀ x o, Real' (att (args m c) x o)) (o : Fin 2) : Real' (shift m c o) := by
  unfold shift
  rw [greatest_at, max_bot_left]
  exact fold_max_real (0 : Fin 50000) _ fun n => by rw [attentionOf_at]; exact ha _ _

theorem poolOf_at (o : Fin 2) (l : Fin 512) :
    poolOf m c (ix2 o l)
      = ∑ n, Ideal.div (Ideal.exp (att (args m c) ((args m c).h n) o - shift m c o))
          (∑ i, Ideal.exp (att (args m c) ((args m c).h i) o - shift m c o)) * hidden (args m c) ((args m c).h n) l := by
  unfold poolOf
  rw [pool_at]
  refine Finset.sum_congr rfl fun n _ => ?_
  rw [shares_at, featuresOf_at]
  simp only [exps_at, attentionOf_at]
  rfl

/-- The reference's bag logit, in its normalized form. -/
theorem scoresOf_at (o : Fin 2) : scoresOf m c (ix2 0 o) = refLogit (args m c) (shift m c o) o := by
  unfold scoresOf refLogit
  rw [scores_at]
  match o with
  | 0 =>
    rw [if_pos (by decide), score0_at]
    refine congrArg₂ (· + ·) (Finset.sum_congr rfl fun l _ => ?_) rfl
    rw [poolOf_at]
    rfl
  | 1 =>
    rw [if_neg (by decide), score1_at]
    refine congrArg₂ (· + ·) (Finset.sum_congr rfl fun l _ => ?_) rfl
    rw [poolOf_at]
    rfl

/-- With real attention logits the reference's bag logit is the one the pooling divides once for. -/
theorem scoresOf_logit (ha : ∀ x o, Real' (att (args m c) x o)) (o : Fin 2) :
    scoresOf m c (ix2 0 o) = logit (args m c) o := by
  rw [scoresOf_at]
  exact refLogit_eq _ _ _ (shift_real m c ha o) fun x => ha x o

end Cert.ReferenceIdeal.Stages

end
-- ==== Proof.RefChoice.lean ====
/-
  The reference's class choice: a top-1 of two logits, that is a stable sort of two entries by "greater", whose first
  position is the first entry unless the second is strictly greater.
-/
module

public import proofs.«01_k».proof.Proof.RefStages

@[expose] public section

noncomputable section

namespace Cert.ReferenceIdeal.Stages

open Cert.ReferenceIdeal Cert.ReferenceIdeal.Gen Cert.ReferenceIdeal.Value Cert.Net
open Idealize.ShloMosaic Idealize.ShloMosaic.TcCoe Idealize.ShloMosaic.Pointwise Idealize.SL.Sem

/-- A stable sort of two positions puts the second one first exactly when it sorts before the first. -/
theorem sortedFrom_two (before : Fin 2 → Fin 2 → Bool) : sortedFrom before 0 = if before 1 0 then 1 else 0 := by
  have key : (sortPositions 2 before) = if before 1 0 then [1, 0] else [0, 1] := by
    show (if before 1 0 then 1 :: insertBefore before 0 [] else [0, 1]) = _
    by_cases h : before 1 0 = true <;> simp [h, insertBefore]
  have hget : (sortPositions 2 before)[0]? = some (sortedFrom before 0) := by
    unfold sortedFrom
    rw [List.get_eq_getElem, List.getElem?_eq_getElem]
    rfl
  rw [key] at hget
  by_cases h : before 1 0 = true <;> simp [h] at hget ⊢ <;> exact hget.symm

/-- The entry of the row of two logits at position `k` of its second axis. -/
theorem along_row (k : Fin 2) : Shape.Idx.along (s := S1x2) (ix2 0 0) 1 k = ix2 0 k := by
  funext d
  match d with
  | 0 => rfl
  | 1 => rfl

/-- The chosen class is the class of the greater logit, the first on a tie. -/
theorem choice_at (y : FVec Ideal S1x2 .f32) : choice y (ix2 0 0) = pick (fun o => y (ix2 0 o)) := by
  pointwise [choice, Host.topK]
  unfold Host.sort2
  rw [dif_pos (by decide : 1 < S1x2.rank)]
  show BitVec.ofNat 32 (Shape.Idx.along (s := S1x2) (ix2 0 0) 1 (sortedFrom (n := 2)
    (fun k k' => Ideal.cmp .ogt (y (Shape.Idx.along (s := S1x2) (ix2 0 0) 1 k)) (y (Shape.Idx.along (s := S1x2) (ix2 0 0) 1 k')) == 1#1)
    0) 1).val = _
  rw [sortedFrom_two]
  simp only [along_row]
  unfold pick
  by_cases h : y (ix2 0 1) ≤ y (ix2 0 0)
  · rw [if_pos h, if_neg (by rw [Ideal.cmp, decide_eq_false (not_lt.mpr h)]; decide)]
    rfl
  · rw [if_neg h, if_pos (by simp [Ideal.cmp, not_le.mp h])]
    rfl

end Cert.ReferenceIdeal.Stages

end
-- ==== Proof.Finite.lean ====
/-
  What the precondition says in numbers: every entry of the last attention layer, weights and bias, is a real number.
-/
module

public import proofs.«01_k».proof.Pre_finite_attention_head
public import proofs.«01_k».proof.Proof.Softmax
public import Idealize.ShloMosaic.PureOps.Ideal.Laws
public import Idealize.ShloMosaic.Lib.Pointwise

@[expose] public section

noncomputable section

namespace Cert.Pre_finite_attention_head

open Idealize.ShloMosaic Idealize.ShloMosaic.Pointwise Cert.Net

/-- The two broadcasts the precondition takes are well formed. -/
theorem facts : Facts := ⟨by decide, by decide⟩

/-- The f32 pattern of plus infinity denotes `⊤`. -/
theorem infinity : Ideal.ofBits .f32 0x7F800000#32 = ⊤ := by simp [Ideal.ofBits, Ideal.ieee]

/-- A value whose absolute value compares below plus infinity is a real number. -/
theorem real_of_below {x : EReal} (h : Ideal.cmp .olt (max x (-x)) ⊤ = 1#1) : Real' x := by
  apply Real'.of_ne
  · rintro rfl; revert h; simp [Ideal.cmp]
  · rintro rfl; revert h; simp [Ideal.cmp]

variable [Facts]

/-- The precondition's first array reads, at each weight, whether its absolute value is below plus infinity. -/
theorem fn_weights (a0 a1 a2 a3 a4 a5 a6 a7 a8 a9 a10 a11 a12) (o : Fin 2) (j : Fin 256) :
    (fn (F := Ideal) a0 a1 a2 a3 a4 a5 a6 a7 a8 a9 a10 a11 a12).1 (ix2 o j)
      = Ideal.cmp .olt (max (a7 (ix2 o j)) (-a7 (ix2 o j))) ⊤ := by
  rw [← infinity]
  rfl

/-- Its second array reads the same at each bias. -/
theorem fn_bias (a0 a1 a2 a3 a4 a5 a6 a7 a8 a9 a10 a11 a12) (o : Fin 2) :
    (fn (F := Ideal) a0 a1 a2 a3 a4 a5 a6 a7 a8 a9 a10 a11 a12).2 (ix1 o)
      = Ideal.cmp .olt (max (a8 (ix1 o)) (-a8 (ix1 o))) ⊤ := by
  rw [← infinity]
  rfl

end Cert.Pre_finite_attention_head

end
-- ==== Proof.Equation.lean ====
/-
  The equation: on the same arguments, with the last attention layer finite, each of the kernel's four result arrays is
  the reference's.
-/
module

public import proofs.«01_k».proof.Defs
public import proofs.«01_k».proof.Proof.KernelArrays
public import proofs.«01_k».proof.Proof.RefRead
public import proofs.«01_k».proof.Proof.RefChoice
public import proofs.«01_k».proof.Proof.Finite

@[expose] public section

noncomputable section

namespace Cert.Equation

open Idealize.ShloMosaic Idealize.ShloMosaic.TcCoe Idealize.ShloMosaic.Pointwise Idealize.SL.Sem Cert.Net

attribute [local instance] Cert.Pre_finite_attention_head.facts

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- Under the precondition every attention logit is a real number. -/
theorem att_finite (h : Pre_KernelIdeal_finite_attention_head m) (c : Dev KernelIdeal.nD) (x : Fin 1024 → EReal) (o : Fin 2) :
    Real' (att (KernelIdeal.Rows.args m c) x o) := by
  refine att_real _ (fun o j => ?_) (fun o => ?_) x o
  · have e := congrFun (h c).1 (ix2 o j)
    rw [Pre_finite_attention_head.fn_weights] at e
    exact Pre_finite_attention_head.real_of_below e
  · have e := congrFun (h c).2 (ix1 o)
    rw [Pre_finite_attention_head.fn_bias] at e
    exact Pre_finite_attention_head.real_of_below e

section
variable (c : Dev KernelIdeal.nD)
  (hargs : ReferenceIdeal.Stages.args m' c = KernelIdeal.Rows.args m c)
  (ha : ∀ x o, Real' (att (KernelIdeal.Rows.args m c) x o))
include hargs ha

theorem scores_at (o : Fin 2) : ReferenceIdeal.Stages.scoresOf m' c (ix2 0 o) = logit (KernelIdeal.Rows.args m c) o := by
  rw [ReferenceIdeal.Stages.scoresOf_logit m' c (by rw [hargs]; exact ha), hargs]

/-- The bag logits agree. -/
theorem logits_eq : ReferenceIdeal.Stages.scoresOf m' c = KernelIdeal.Value.G10 m c := by
  funext i
  obtain ⟨z, o, rfl⟩ : ∃ (z : Fin 1) (o : Fin 2), i = ix2 z o := ⟨i 0, i 1, eq_ix2 i⟩
  obtain rfl : z = 0 := Subsingleton.elim _ _
  exact (scores_at m m' c hargs ha o).trans (KernelIdeal.Rows.array_logit m c o).symm

/-- The class probabilities agree. -/
theorem probs_eq : ReferenceIdeal.Stages.soft (ReferenceIdeal.Stages.scoresOf m' c) = KernelIdeal.Value.G11 m c := by
  funext i
  obtain ⟨z, o, rfl⟩ : ∃ (z : Fin 1) (o : Fin 2), i = ix2 z o := ⟨i 0, i 1, eq_ix2 i⟩
  obtain rfl : z = 0 := Subsingleton.elim _ _
  refine (ReferenceIdeal.Stages.soft_at _ o).trans (Eq.trans ?_ (KernelIdeal.Rows.array_prob m c o).symm)
  exact congrArg (fun y => prob y o) (funext fun k => scores_at m m' c hargs ha k)

/-- The chosen classes agree. -/
theorem choice_eq : ReferenceIdeal.Stages.choice (ReferenceIdeal.Stages.scoresOf m' c) = KernelIdeal.Value.G12 m c := by
  funext i
  obtain ⟨z, o, rfl⟩ : ∃ (z : Fin 1) (o : Fin 1), i = ix2 z o := ⟨i 0, i 1, eq_ix2 i⟩
  obtain rfl : z = 0 := Subsingleton.elim _ _
  obtain rfl : o = 0 := Subsingleton.elim _ _
  refine (ReferenceIdeal.Stages.choice_at _).trans (Eq.trans ?_ (KernelIdeal.Rows.array_pick m c).symm)
  exact congrArg pick (funext fun k => scores_at m m' c hargs ha k)

omit ha in
/-- The attention logits agree, with or without the precondition. -/
theorem attention_eq :
    ReferenceIdeal.Stages.attentionOf m' c = KernelIdeal.Value.rows (KernelIdeal.Value.G9 m c) := by
  funext i
  obtain ⟨o, n, rfl⟩ : ∃ (o : Fin 2) (n : Fin 50000), i = ix2 o n := ⟨i 0, i 1, eq_ix2 i⟩
  rw [ReferenceIdeal.Stages.attentionOf_at, hargs]
  exact (KernelIdeal.Rows.attention_rows m c o n).symm

end

end Cert.Equation

end
-- ==== Proof.lean ====
/-
  The proof of `Cert.Claim`. The three frames and the kernel's and the reference's runs come from the launch modules;
  the equality of the results is `Proof/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.ShloMosaic.TcCoe Idealize.SL.Sem

attribute [local instance] Cert.Pre_finite_attention_head.facts

/-- The reference's run leaves its arguments alone, and it declares no semaphore. -/
theorem frame_reference : Cert.quiescent_ReferenceIdeal := fun m g _ =>
  (θ_run Cert.ReferenceIdeal.defs _ _).mono
    (fun r h => ⟨fun c => (h c).2.2.2.2, sem_eq_zero_of_no_sems (by decide) r.2⟩) (Cert.ReferenceIdeal.Value.run m g)

/-- Both programs run and end with equal results. -/
theorem algebraic : Cert.algebraic_KernelIdeal_ReferenceIdeal_pre_finite_attention_head := by
  intro m g m' g' hpre hagree
  have hargs : ∀ c, Cert.ReferenceIdeal.Stages.args m' c = Cert.KernelIdeal.Rows.args m c := fun c => by
    obtain ⟨h0, h1, h2, h3, h4, h5, h6, h7, h8, h9, h10, h11, h12⟩ := hagree c
    unfold Cert.ReferenceIdeal.Stages.args Cert.KernelIdeal.Rows.args
    rw [h0, h1, h2, h3, h4, h5, h6, h7, h8, h9, h10, h11, h12]
  have ha := Cert.Equation.att_finite m hpre
  refine ⟨Cert.KernelIdeal.Value.G10 m, Cert.KernelIdeal.Value.G11 m, Cert.KernelIdeal.Value.G12 m, fun c => Cert.KernelIdeal.Value.rows (Cert.KernelIdeal.Value.G9 m c), ?_, ?_⟩
  · refine (θ_run Cert.KernelIdeal.defs _ _).mono (fun r h c => ?_) (θ_run_and (Cert.KernelIdeal.Value.run m g) (Cert.KernelIdeal.Gen.unchanged m g))
    obtain ⟨h0, h1, h2, h3⟩ := h.1 c
    exact ⟨h0, h1, h2, h3, h.2 c⟩
  · refine (θ_run Cert.ReferenceIdeal.defs _ _).mono (fun r h c => ?_) (Cert.ReferenceIdeal.Value.run m' g')
    obtain ⟨h0, h1, h2, h3, hrest⟩ := h c
    refine ⟨h0.trans ?_, h1.trans ?_, h2.trans ?_, h3.trans ?_, hrest⟩
    · exact (Cert.ReferenceIdeal.Stages.out0_eq m' c).trans (Cert.Equation.logits_eq m m' c (hargs c) (ha c))
    · exact (Cert.ReferenceIdeal.Stages.out1_eq m' c).trans (Cert.Equation.probs_eq m m' c (hargs c) (ha c))
    · exact (Cert.ReferenceIdeal.Stages.out2_eq m' c).trans (Cert.Equation.choice_eq m m' c (hargs c) (ha c))
    · exact Cert.Equation.attention_eq m m' c (hargs c)

theorem claim : Cert.Claim :=
  ⟨Cert.Kernel.Gen.facts, Cert.KernelIdeal.Gen.facts, Cert.ReferenceIdeal.Gen.facts, Cert.Pre_finite_attention_head.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
